-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_order [hPre_finite_in_order : Cert.Pre_finite_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_order [hPre_finite_in_order : Cert.Pre_finite_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_in_order [hKernelIdeal : Cert.KernelIdeal.Facts] [hPre_finite_in_order : Cert.Pre_finite_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_in_order [hReferenceIdeal : Cert.ReferenceIdeal.Facts] [hPre_finite_in_order : Cert.Pre_finite_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_in_order [hKernelIdeal : Cert.KernelIdeal.Facts] [hReferenceIdeal : Cert.ReferenceIdeal.Facts] [hPre_finite_in_order : Cert.Pre_finite_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_in_order : Cert.Pre_finite_in_order.Facts),
    quiescent_Kernel (hKernel := hKernel)
    ∧ quiescent_KernelIdeal (hKernelIdeal := hKernelIdeal)
    ∧ quiescent_KernelIdeal_pre_finite_in_order (hKernelIdeal := hKernelIdeal) (hPre_finite_in_order := hPre_finite_in_order)
    ∧ quiescent_ReferenceIdeal (hReferenceIdeal := hReferenceIdeal)
    ∧ quiescent_ReferenceIdeal_pre_finite_in_order (hReferenceIdeal := hReferenceIdeal) (hPre_finite_in_order := hPre_finite_in_order)
    ∧ preserves_Kernel_KernelIdeal
    ∧ algebraic_KernelIdeal_ReferenceIdeal_pre_finite_in_order (hKernelIdeal := hKernelIdeal) (hReferenceIdeal := hReferenceIdeal) (hPre_finite_in_order := hPre_finite_in_order)
-- ==== Pre_finite_in_order.lean ====
abbrev S32768x512 : Shape := ⟨2, ![32768, 512]⟩
abbrev S16x2048 : Shape := ⟨2, ![16, 2048]⟩
abbrev S3x256x512 : Shape := ⟨3, ![3, 256, 512]⟩
abbrev S3x256 : Shape := ⟨2, ![3, 256]⟩
abbrev S3x1x256 : Shape := ⟨3, ![3, 1, 256]⟩
abbrev S3x1 : Shape := ⟨2, ![3, 1]⟩
abbrev S512x1536 : Shape := ⟨2, ![512, 1536]⟩
abbrev S512 : Shape := ⟨1, ![512]⟩
abbrev S_ : Shape := ⟨0, ![]⟩

class Facts : Prop where
  bcast_S_S32768x512 : S_.BroadcastsInDim S32768x512 (![] : Fin 0 → Fin S32768x512.rank)
  bcast_S_S3x256x512 : S_.BroadcastsInDim S3x256x512 (![] : Fin 0 → Fin S3x256x512.rank)
  bcast_S_S3x256 : S_.BroadcastsInDim S3x256 (![] : Fin 0 → Fin S3x256.rank)
  bcast_S_S3x1x256 : S_.BroadcastsInDim S3x1x256 (![] : Fin 0 → Fin S3x1x256.rank)
  bcast_S_S3x1 : S_.BroadcastsInDim S3x1 (![] : Fin 0 → Fin S3x1.rank)
  bcast_S_S16x2048 : S_.BroadcastsInDim S16x2048 (![] : Fin 0 → Fin S16x2048.rank)

variable [Facts]

def fn_part1 {F : FTy → Type} [FloatOps F] (main_arg1 : IVec S16x2048 32) (main_v0 : IVec S16x2048 32) (main_v1 : IVec S16x2048 32) (main_v4 : IVec S32768x512 1) (main_v7 : IVec S3x256x512 1) (main_v10 : IVec S3x256 1) (main_v13 : IVec S3x1x256 1) (main_v16 : IVec S3x1 1) (main_v17 : IVec S16x2048 32) : IVec S16x2048 1 × IVec S32768x512 1 × IVec S3x256x512 1 × IVec S3x256 1 × IVec S3x1x256 1 × IVec S3x1 1 :=
  let main_v18 : IVec S16x2048 32 := muli main_v0 main_v17
  let main_v19 : IVec S16x2048 32 := addi main_v18 main_v1
  let main_v20 : IVec S16x2048 1 := cmpi .eq main_arg1 main_v19
  (main_v20, main_v4, main_v7, main_v10, main_v13, main_v16)

def fn {F : FTy → Type} [FloatOps F] (main_arg0 : FVec F S32768x512 .f32) (main_arg1 : IVec S16x2048 32) (main_arg2 : FVec F S3x256x512 .f32) (main_arg3 : FVec F S3x256 .f32) (main_arg4 : FVec F S3x1x256 .f32) (main_arg5 : FVec F S3x1 .f32) (main_arg6 : FVec F S512x1536 .f32) (main_arg7 : FVec F S512 .f32) : IVec S16x2048 1 × IVec S32768x512 1 × IVec S3x256x512 1 × IVec S3x256 1 × IVec S3x1x256 1 × IVec S3x1 1 :=
  let main_v0 : IVec S16x2048 32 := iotaInDim S16x2048 32 0
  let main_v1 : IVec S16x2048 32 := iotaInDim S16x2048 32 1
  let main_v2 : FVec F S32768x512 .f32 := Host.absf main_arg0
  let main_cst : FVec F S_ .f32 := constant S_ .f32 0x7F800000#32
  let main_v3 : FVec F S32768x512 .f32 := broadcastInDim S32768x512 ![] bcast_S_S32768x512 main_cst
  let main_v4 : IVec S32768x512 1 := cmpf .olt main_v2 main_v3
  let main_v5 : FVec F S3x256x512 .f32 := Host.absf main_arg2
  let main_cst_0 : FVec F S_ .f32 := constant S_ .f32 0x7F800000#32
  let main_v6 : FVec F S3x256x512 .f32 := broadcastInDim S3x256x512 ![] bcast_S_S3x256x512 main_cst_0
  let main_v7 : IVec S3x256x512 1 := cmpf .olt main_v5 main_v6
  let main_v8 : FVec F S3x256 .f32 := Host.absf main_arg3
  let main_cst_1 : FVec F S_ .f32 := constant S_ .f32 0x7F800000#32
  let main_v9 : FVec F S3x256 .f32 := broadcastInDim S3x256 ![] bcast_S_S3x256 main_cst_1
  let main_v10 : IVec S3x256 1 := cmpf .olt main_v8 main_v9
  let main_v11 : FVec F S3x1x256 .f32 := Host.absf main_arg4
  let main_cst_2 : FVec F S_ .f32 := constant S_ .f32 0x7F800000#32
  let main_v12 : FVec F S3x1x256 .f32 := broadcastInDim S3x1x256 ![] bcast_S_S3x1x256 main_cst_2
  let main_v13 : IVec S3x1x256 1 := cmpf .olt main_v11 main_v12
  let main_v14 : FVec F S3x1 .f32 := Host.absf main_arg5
  let main_cst_3 : FVec F S_ .f32 := constant S_ .f32 0x7F800000#32
  let main_v15 : FVec F S3x1 .f32 := broadcastInDim S3x1 ![] bcast_S_S3x1 main_cst_3
  let main_v16 : IVec S3x1 1 := cmpf .olt main_v14 main_v15
  let main_c : IVec S_ 32 := constantI S_ 32 2048#32
  let main_v17 : IVec S16x2048 32 := broadcastInDim S16x2048 ![] bcast_S_S16x2048 main_c
  fn_part1 (F := F) main_arg1 main_v0 main_v1 main_v4 main_v7 main_v10 main_v13 main_v16 main_v17
-- ==== Kernel.lean ====
abbrev S32768x512 : Shape := ⟨2, ![32768, 512]⟩
abbrev S16x2048 : Shape := ⟨2, ![16, 2048]⟩
abbrev S3x256x512 : Shape := ⟨3, ![3, 256, 512]⟩
abbrev S3x256 : Shape := ⟨2, ![3, 256]⟩
abbrev S3x1x256 : Shape := ⟨3, ![3, 1, 256]⟩
abbrev S3x1 : Shape := ⟨2, ![3, 1]⟩
abbrev S512x1536 : Shape := ⟨2, ![512, 1536]⟩
abbrev S512 : Shape := ⟨1, ![512]⟩
abbrev S768x512 : Shape := ⟨2, ![768, 512]⟩
abbrev S1x768 : Shape := ⟨2, ![1, 768]⟩
abbrev S_ : Shape := ⟨0, ![]⟩
abbrev S768x3 : Shape := ⟨2, ![768, 3]⟩
abbrev S1x1x256 : Shape := ⟨3, ![1, 1, 256]⟩
abbrev S256 : Shape := ⟨1, ![256]⟩
abbrev S1 : Shape := ⟨1, ![1]⟩
abbrev S2 : Shape := ⟨1, ![2]⟩
abbrev S1x512 : Shape := ⟨2, ![1, 512]⟩
abbrev S16x512 : Shape := ⟨2, ![16, 512]⟩
abbrev S2048x512 : Shape := ⟨2, ![2048, 512]⟩
abbrev S16x1536 : Shape := ⟨2, ![16, 1536]⟩
abbrev S2048x768 : Shape := ⟨2, ![2048, 768]⟩
abbrev S2048x3 : Shape := ⟨2, ![2048, 3]⟩
abbrev S3x2048 : Shape := ⟨2, ![3, 2048]⟩
abbrev S3 : Shape := ⟨1, ![3]⟩
abbrev S3x512 : Shape := ⟨2, ![3, 512]⟩
abbrev S1x1536 : Shape := ⟨2, ![1, 1536]⟩

abbrev nBuf : Space → Nat
  | .hbm => 43
  | .vmem => 9
  | .smem => 0
  | _ => 0

abbrev bufTy : (tb : Table) → Fin (tcTables nBuf tb) → BufTy
  | .hbm, ⟨0, _⟩ => ⟨S32768x512, .f32⟩
  | .hbm, ⟨1, _⟩ => ⟨S16x2048, .i32⟩
  | .hbm, ⟨2, _⟩ => ⟨S3x256x512, .f32⟩
  | .hbm, ⟨3, _⟩ => ⟨S3x256, .f32⟩
  | .hbm, ⟨4, _⟩ => ⟨S3x1x256, .f32⟩
  | .hbm, ⟨5, _⟩ => ⟨S3x1, .f32⟩
  | .hbm, ⟨6, _⟩ => ⟨S512x1536, .f32⟩
  | .hbm, ⟨7, _⟩ => ⟨S512, .f32⟩
  | .hbm, ⟨8, _⟩ => ⟨S768x512, .f32⟩
  | .hbm, ⟨9, _⟩ => ⟨S768x512, .bf16⟩
  | .hbm, ⟨10, _⟩ => ⟨S1x768, .f32⟩
  | .hbm, ⟨11, _⟩ => ⟨S1x768, .bf16⟩
  | .hbm, ⟨12, _⟩ => ⟨S_, .bf16⟩
  | .hbm, ⟨13, _⟩ => ⟨S768x3, .bf16⟩
  | .hbm, ⟨14, _⟩ => ⟨S1x1x256, .f32⟩
  | .hbm, ⟨15, _⟩ => ⟨S256, .f32⟩
  | .hbm, ⟨16, _⟩ => ⟨S256, .bf16⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S768x3, .bf16⟩
  | .hbm, ⟨23, _⟩ => ⟨S1x1x256, .f32⟩
  | .hbm, ⟨24, _⟩ => ⟨S256, .f32⟩
  | .hbm, ⟨25, _⟩ => ⟨S256, .bf16⟩
  | .hbm, ⟨26, _⟩ => ⟨S_, .i32⟩
  | .hbm, ⟨27, _⟩ => ⟨S1, .i32⟩
  | .hbm, ⟨28, _⟩ => ⟨S_, .i32⟩
  | .hbm, ⟨29, _⟩ => ⟨S1, .i32⟩
  | .hbm, ⟨30, _⟩ => ⟨S2, .i32⟩
  | .hbm, ⟨31, _⟩ => ⟨S768x3, .bf16⟩
  | .hbm, ⟨32, _⟩ => ⟨S1x1x256, .f32⟩
  | .hbm, ⟨33, _⟩ => ⟨S256, .f32⟩
  | .hbm, ⟨34, _⟩ => ⟨S256, .bf16⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S768x3, .bf16⟩
  | .hbm, ⟨41, _⟩ => ⟨S1x512, .f32⟩
  | .hbm, ⟨42, _⟩ => ⟨S16x512, .f32⟩
  | .local _ .vmem, ⟨0, _⟩ => ⟨S2048x512, .f32⟩
  | .local _ .vmem, ⟨1, _⟩ => ⟨S2048x512, .f32⟩
  | .local _ .vmem, ⟨2, _⟩ => ⟨S768x512, .bf16⟩
  | .local _ .vmem, ⟨3, _⟩ => ⟨S1x768, .bf16⟩
  | .local _ .vmem, ⟨4, _⟩ => ⟨S768x3, .bf16⟩
  | .local _ .vmem, ⟨5, _⟩ => ⟨S512x1536, .f32⟩
  | .local _ .vmem, ⟨6, _⟩ => ⟨S1x512, .f32⟩
  | .local _ .vmem, ⟨7, _⟩ => ⟨S16x512, .f32⟩
  | .local _ .vmem, ⟨8, _⟩ => ⟨S16x1536, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v31 : Index := Scalar.indexCast arg0
  let c0_13 : Index := 0#32
  ![v31.toNat, 0]
def k0_cond1 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32 : BitVec 32 := 0#32
  let v37 : BitVec 1 := Scalar.cmpi .ne v36 c0_i32
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S32768x512 : Shape := ⟨2, ![32768, 512]⟩
abbrev S16x2048 : Shape := ⟨2, ![16, 2048]⟩
abbrev S3x256x512 : Shape := ⟨3, ![3, 256, 512]⟩
abbrev S3x256 : Shape := ⟨2, ![3, 256]⟩
abbrev S3x1x256 : Shape := ⟨3, ![3, 1, 256]⟩
abbrev S3x1 : Shape := ⟨2, ![3, 1]⟩
abbrev S512x1536 : Shape := ⟨2, ![512, 1536]⟩
abbrev S512 : Shape := ⟨1, ![512]⟩
abbrev S_ : Shape := ⟨0, ![]⟩
abbrev S16x2048x1 : Shape := ⟨3, ![16, 2048, 1]⟩
abbrev S1 : Shape := ⟨1, ![1]⟩
abbrev S1x1x1 : Shape := ⟨3, ![1, 1, 1]⟩
abbrev S16x2048x512 : Shape := ⟨3, ![16, 2048, 512]⟩
abbrev S1x256x512 : Shape := ⟨3, ![1, 256, 512]⟩
abbrev S256x512 : Shape := ⟨2, ![256, 512]⟩
abbrev S16x2048x256 : Shape := ⟨3, ![16, 2048, 256]⟩
abbrev S1x256 : Shape := ⟨2, ![1, 256]⟩
abbrev S256 : Shape := ⟨1, ![256]⟩
abbrev S1x1x256 : Shape := ⟨3, ![1, 1, 256]⟩
abbrev S1x1 : Shape := ⟨2, ![1, 1]⟩
abbrev S16x1 : Shape := ⟨2, ![16, 1]⟩
abbrev S16x1x1 : Shape := ⟨3, ![16, 1, 1]⟩
abbrev S16x512 : Shape := ⟨2, ![16, 512]⟩
abbrev S16x1536 : Shape := ⟨2, ![16, 1536]⟩
abbrev S1536x512 : Shape := ⟨2, ![1536, 512]⟩
abbrev S1x512 : Shape := ⟨2, ![1, 512]⟩

abbrev nBuf : Space → Nat
  | .hbm => 148
  | .vmem => 0
  | .smem => 0
  | _ => 0

abbrev hbmTy0_0 (i : Nat) : BufTy := match i % 128 with
  | 0 => ⟨S32768x512, .f32⟩
  | 1 => ⟨S16x2048, .i32⟩
  | 2 => ⟨S3x256x512, .f32⟩
  | 3 => ⟨S3x256, .f32⟩
  | 4 => ⟨S3x1x256, .f32⟩
  | 5 => ⟨S3x1, .f32⟩
  | 6 => ⟨S512x1536, .f32⟩
  | 7 => ⟨S512, .f32⟩
  | 8 => ⟨S_, .i32⟩
  | 9 => ⟨S16x2048, .i32⟩
  | 10 => ⟨S16x2048, .i1⟩
  | 11 => ⟨S_, .i32⟩
  | 12 => ⟨S16x2048, .i32⟩
  | 13 => ⟨S16x2048, .i32⟩
  | 14 => ⟨S16x2048, .i32⟩
  | 15 => ⟨S16x2048x1, .i32⟩
  | 16 => ⟨S1, .i32⟩
  | 17 => ⟨S_, .i32⟩
  | 18 => ⟨S16x2048x1, .i32⟩
  | 19 => ⟨S16x2048x1, .i1⟩
  | 20 => ⟨S1x1x1, .i32⟩
  | 21 => ⟨S16x2048x1, .i32⟩
  | 22 => ⟨S16x2048x1, .i1⟩
  | 23 => ⟨S16x2048x1, .i1⟩
  | 24 => ⟨S_, .i1⟩
  | 25 => ⟨S16x2048, .i1⟩
  | 26 => ⟨S16x2048x512, .f32⟩
  | 27 => ⟨S16x2048x512, .i1⟩
  | 28 => ⟨S_, .f32⟩
  | 29 => ⟨S16x2048x512, .f32⟩
  | 30 => ⟨S16x2048x512, .f32⟩
  | 31 => ⟨S1x256x512, .f32⟩
  | 32 => ⟨S256x512, .f32⟩
  | 33 => ⟨S16x2048x256, .f32⟩
  | 34 => ⟨S1x256, .f32⟩
  | 35 => ⟨S256, .f32⟩
  | 36 => ⟨S1x1x256, .f32⟩
  | 37 => ⟨S16x2048x256, .f32⟩
  | 38 => ⟨S16x2048x256, .f32⟩
  | 39 => ⟨S_, .f32⟩
  | 40 => ⟨S16x2048x256, .f32⟩
  | 41 => ⟨S16x2048x256, .f32⟩
  | 42 => ⟨S1x1x256, .f32⟩
  | 43 => ⟨S1x256, .f32⟩
  | 44 => ⟨S16x2048x1, .f32⟩
  | 45 => ⟨S1x1, .f32⟩
  | 46 => ⟨S1, .f32⟩
  | 47 => ⟨S1x1x1, .f32⟩
  | 48 => ⟨S16x2048x1, .f32⟩
  | 49 => ⟨S16x2048x1, .f32⟩
  | 50 => ⟨S_, .f32⟩
  | 51 => ⟨S16x1, .f32⟩
  | 52 => ⟨S_, .f32⟩
  | 53 => ⟨S16x1, .f32⟩
  | 54 => ⟨S16x1, .f32⟩
  | 55 => ⟨S16x1x1, .f32⟩
  | 56 => ⟨S16x2048x1, .f32⟩
  | 57 => ⟨S16x2048x1, .f32⟩
  | 58 => ⟨S16x2048x1, .f32⟩
  | 59 => ⟨S_, .f32⟩
  | 60 => ⟨S16x1, .f32⟩
  | 61 => ⟨S16x1x1, .f32⟩
  | 62 => ⟨S16x2048x1, .f32⟩
  | 63 => ⟨S16x2048x1, .f32⟩
  | 64 => ⟨S16x2048x512, .f32⟩
  | 65 => ⟨S16x2048x512, .f32⟩
  | 66 => ⟨S_, .f32⟩
  | 67 => ⟨S16x512, .f32⟩
  | 68 => ⟨S1x256x512, .f32⟩
  | 69 => ⟨S256x512, .f32⟩
  | 70 => ⟨S16x2048x256, .f32⟩
  | 71 => ⟨S1x256, .f32⟩
  | 72 => ⟨S256, .f32⟩
  | 73 => ⟨S1x1x256, .f32⟩
  | 74 => ⟨S16x2048x256, .f32⟩
  | 75 => ⟨S16x2048x256, .f32⟩
  | 76 => ⟨S_, .f32⟩
  | 77 => ⟨S16x2048x256, .f32⟩
  | 78 => ⟨S16x2048x256, .f32⟩
  | 79 => ⟨S1x1x256, .f32⟩
  | 80 => ⟨S1x256, .f32⟩
  | 81 => ⟨S16x2048x1, .f32⟩
  | 82 => ⟨S1x1, .f32⟩
  | 83 => ⟨S1, .f32⟩
  | 84 => ⟨S1x1x1, .f32⟩
  | 85 => ⟨S16x2048x1, .f32⟩
  | 86 => ⟨S16x2048x1, .f32⟩
  | 87 => ⟨S_, .f32⟩
  | 88 => ⟨S16x1, .f32⟩
  | 89 => ⟨S_, .f32⟩
  | 90 => ⟨S16x1, .f32⟩
  | 91 => ⟨S16x1, .f32⟩
  | 92 => ⟨S16x1x1, .f32⟩
  | 93 => ⟨S16x2048x1, .f32⟩
  | 94 => ⟨S16x2048x1, .f32⟩
  | 95 => ⟨S16x2048x1, .f32⟩
  | 96 => ⟨S_, .f32⟩
  | 97 => ⟨S16x1, .f32⟩
  | 98 => ⟨S16x1x1, .f32⟩
  | 99 => ⟨S16x2048x1, .f32⟩
  | 100 => ⟨S16x2048x1, .f32⟩
  | 101 => ⟨S16x2048x512, .f32⟩
  | 102 => ⟨S16x2048x512, .f32⟩
  | 103 => ⟨S_, .f32⟩
  | 104 => ⟨S16x512, .f32⟩
  | 105 => ⟨S1x256x512, .f32⟩
  | 106 => ⟨S256x512, .f32⟩
  | 107 => ⟨S16x2048x256, .f32⟩
  | 108 => ⟨S1x256, .f32⟩
  | 109 => ⟨S256, .f32⟩
  | 110 => ⟨S1x1x256, .f32⟩
  | 111 => ⟨S16x2048x256, .f32⟩
  | 112 => ⟨S16x2048x256, .f32⟩
  | 113 => ⟨S_, .f32⟩
  | 114 => ⟨S16x2048x256, .f32⟩
  | 115 => ⟨S16x2048x256, .f32⟩
  | 116 => ⟨S1x1x256, .f32⟩
  | 117 => ⟨S1x256, .f32⟩
  | 118 => ⟨S16x2048x1, .f32⟩
  | 119 => ⟨S1x1, .f32⟩
  | 120 => ⟨S1, .f32⟩
  | 121 => ⟨S1x1x1, .f32⟩
  | 122 => ⟨S16x2048x1, .f32⟩
  | 123 => ⟨S16x2048x1, .f32⟩
  | 124 => ⟨S_, .f32⟩
  | 125 => ⟨S16x1, .f32⟩
  | 126 => ⟨S_, .f32⟩
  | 127 => ⟨S16x1, .f32⟩
  | _ => ⟨S32768x512, .f32⟩

abbrev hbmTy0_1 (i : Nat) : BufTy := match i % 128 with
  | 0 => ⟨S16x1, .f32⟩
  | 1 => ⟨S16x1x1, .f32⟩
  | 2 => ⟨S16x2048x1, .f32⟩
  | 3 => ⟨S16x2048x1, .f32⟩
  | 4 => ⟨S16x2048x1, .f32⟩
  | 5 => ⟨S_, .f32⟩
  | 6 => ⟨S16x1, .f32⟩
  | 7 => ⟨S16x1x1, .f32⟩
  | 8 => ⟨S16x2048x1, .f32⟩
  | 9 => ⟨S16x2048x1, .f32⟩
  | 10 => ⟨S16x2048x512, .f32⟩
  | 11 => ⟨S16x2048x512, .f32⟩
  | 12 => ⟨S_, .f32⟩
  | 13 => ⟨S16x512, .f32⟩
  | 14 => ⟨S16x1536, .f32⟩
  | 15 => ⟨S1536x512, .f32⟩
  | 16 => ⟨S16x512, .f32⟩
  | 17 => ⟨S1x512, .f32⟩
  | 18 => ⟨S16x512, .f32⟩
  | 19 => ⟨S16x512, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst : Ref sig .tc := ⟨.hbm, 50, rfl⟩
abbrev main_v18 : Ref sig .tc := ⟨.hbm, 51, rfl⟩
abbrev main_cst_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_1 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_2 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_call2_cst : Ref sig .tc := ⟨.hbm, 76, rfl⟩
abbrev main_call2_v0 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_3 : Ref sig .tc := ⟨.hbm, 87, rfl⟩
abbrev main_v49 : Ref sig .tc := ⟨.hbm, 88, rfl⟩
abbrev main_cst_4 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_5 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_6 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_call3_cst : Ref sig .tc := ⟨.hbm, 113, rfl⟩
abbrev main_call3_v0 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_7 : Ref sig .tc := ⟨.hbm, 124, rfl⟩
abbrev main_v80 : Ref sig .tc := ⟨.hbm, 125, rfl⟩
abbrev main_cst_8 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_9 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_10 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩

abbrev nD : Nat := 1
abbrev τ : Topo := Topo.v7x

variable {F : FTy → Type} [FloatOps F]
-- ==== Proof.KernelBody.lean ====
/- What one run of the kernel's body does to the buffers it is handed: it stores the pooled row of its crystal
   into the accumulator's row, and at the last grid point computes the output block from the accumulator. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead
public import Idealize.ShloMosaic.Lib.WritesUnit

@[expose] public section

set_option maxRecDepth 16384

noncomputable section

namespace Cert.Proof.PI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The accumulator `S` with the row `p` put at row `b`. -/
def fillRow (b : ℕ) (p : Vec F S1x1536 .f32) (S : Vec F S16x1536 .f32) : Vec F S16x1536 .f32 := fun y =>
  if (y (0 : Fin 2)).val = b then p (Fin.cons (0 : Fin 1) (Fin.cons (y (1 : Fin 2)) finZeroElim)) else S y

/-- The row the body stores into starts at the grid point's own number. -/
theorem off1_eq (i : grid0.Coords) : k0_off1 i = ![(i 0).val, 0] := by
  have h : (i 0).val < 16 := (i 0).isLt
  have e : (BitVec.ofNat 32 (i 0).val).toNat = (i 0).val := by
    rw [BitVec.toNat_ofNat]; exact Nat.mod_eq_of_lt (by omega)
  exact congrArg (fun n => ![n, 0]) e

/-- A store of one row into the accumulator leaves the accumulator with that row put there. -/
theorem read_store_row (v : View sig .tc .vmem S16x1536 .f32) (f : v.ty.Contents (Elt F)) (i : grid0.Coords)
    (p : Vec F S1x1536 .f32) :
    v.read (Elt F) (v.writes (Elt F) f [⟨Rect.unit (s := S16x1536) (k0_off1 i) S1x1536.size (k0_off1_inb i), p⟩])
      = fillRow (i 0).val p (v.read (Elt F) f) := by
  funext y
  rw [View.read_writes_cons_rows (d := ![16, 1536]) v f (k0_off1_inb i) p [] y (off1_eq i) (W := 1) rfl rfl]
  unfold fillRow
  by_cases h : (y (0 : Fin 2)).val = (i 0).val
  · rw [dif_pos ⟨h.ge, by omega⟩, if_pos h]
    refine congrArg p (funext fun a => Fin.ext ?_)
    rw [Rect.unitLocal_val]
    refine Fin.cases ?_ (fun a => ?_) a
    · show (y (0 : Fin 2)).val - (i 0).val = 0
      omega
    · obtain rfl : a = 0 := Subsingleton.elim _ _
      rfl
  · rw [dif_neg (by omega), if_neg h]
    rfl

/-- The same when the row stored is computed from whole loads of the four input buffers. -/
theorem read_pooled (v : View sig .tc .vmem S16x1536 .f32) (f : v.ty.Contents (Elt F)) (i : grid0.Coords)
    (v1 : View sig .tc .vmem S2048x512 .f32) (f1 : v1.ty.Contents (Elt F)) (v2 : View sig .tc .vmem S768x512 .bf16) (f2 : v2.ty.Contents (Elt F))
    (v3 : View sig .tc .vmem S1x768 .bf16) (f3 : v3.ty.Contents (Elt F)) (v4 : View sig .tc .vmem S768x3 .bf16) (f4 : v4.ty.Contents (Elt F)) :
    v.read (Elt F) (v.writes (Elt F) f [⟨Rect.unit (s := S16x1536) (k0_off1 i) S1x1536.size (k0_off1_inb i),
        k0_pay1 (v1.readAt (Elt F) (Rect.unit (s := S2048x512) ![0, 0] S2048x512.size Facts₀.inb_S2048x512_S2048x512_0_0).toLoadRect f1)
          (v2.readAt (Elt F) (Rect.unit (s := S768x512) ![0, 0] S768x512.size Facts₀.inb_S768x512_S768x512_0_0).toLoadRect f2)
          (v3.readAt (Elt F) (Rect.unit (s := S1x768) ![0, 0] S1x768.size Facts₀.inb_S1x768_S1x768_0_0).toLoadRect f3)
          (v4.readAt (Elt F) (Rect.unit (s := S768x3) ![0, 0] S768x3.size Facts₀.inb_S768x3_S768x3_0_0).toLoadRect f4)⟩])
      = fillRow (i 0).val (k0_pay1 (v1.read (Elt F) f1) (v2.read (Elt F) f2) (v3.read (Elt F) f3) (v4.read (Elt F) f4)) (v.read (Elt F) f) :=
  (read_store_row v f i _).trans (by rw [View.readAt_full, View.readAt_full, View.readAt_full, View.readAt_full])

set_option maxHeartbeats 1000000 in
/-- At a point that is not the last, from the inputs at `x0 … x5`, the output buffer at `d` and the accumulator at `S`,
    the body puts the pooled row into the accumulator and changes nothing else. -/
theorem body_step (c : Dev nD) (i : grid0.Coords) (arg1 : Memref sig .tc .vmem S2048x512 .f32) (harg1 : arg1.IsWhole)
    (arg2 : Memref sig .tc .vmem S768x512 .bf16) (harg2 : arg2.IsWhole) (arg3 : Memref sig .tc .vmem S1x768 .bf16) (harg3 : arg3.IsWhole)
    (arg4 : Memref sig .tc .vmem S768x3 .bf16) (harg4 : arg4.IsWhole) (arg5 : Memref sig .tc .vmem S512x1536 .f32) (harg5 : arg5.IsWhole)
    (arg6 : Memref sig .tc .vmem S1x512 .f32) (harg6 : arg6.IsWhole) (arg7 : Memref sig .tc .vmem S16x512 .f32) (harg7 : arg7.IsWhole)
    (arg8 : Memref sig .tc .vmem S16x1536 .f32) (harg8 : arg8.IsWhole) (hc : ¬ k0_cond1 i = 1#1)
    (x0 : Vec F S2048x512 .f32) (x1 : Vec F S768x512 .bf16) (x2 : Vec F S1x768 .bf16) (x3 : Vec F S768x3 .bf16)
    (x4 : Vec F S512x1536 .f32) (x5 : Vec F S1x512 .f32) (d : Vec F S16x512 .f32) (S : Vec F S16x1536 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare S
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare d
            ∗ owns (c : Thread nD τ) arg8 fullShare (fillRow (i 0).val (k0_pay1 x0 x1 x2 x3) S)) -∗ K ⟨⟩))
      ⊢ wp frame (wpE (defs₀ (F := F)) Variants.none c none) E
          (cc0__pool_kernel i arg1 harg1 arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  iexists _; isplitr; swap; · iexact H7
  ipureintro
  exact read_pooled _ _ _ _ _ _ _ _ _ _ _

set_option maxHeartbeats 1000000 in
/-- At the last point the body, besides putting the pooled row into the accumulator, leaves in the output buffer the
    output computed from the whole accumulator. -/
theorem body_last (c : Dev nD) (i : grid0.Coords) (arg1 : Memref sig .tc .vmem S2048x512 .f32) (harg1 : arg1.IsWhole)
    (arg2 : Memref sig .tc .vmem S768x512 .bf16) (harg2 : arg2.IsWhole) (arg3 : Memref sig .tc .vmem S1x768 .bf16) (harg3 : arg3.IsWhole)
    (arg4 : Memref sig .tc .vmem S768x3 .bf16) (harg4 : arg4.IsWhole) (arg5 : Memref sig .tc .vmem S512x1536 .f32) (harg5 : arg5.IsWhole)
    (arg6 : Memref sig .tc .vmem S1x512 .f32) (harg6 : arg6.IsWhole) (arg7 : Memref sig .tc .vmem S16x512 .f32) (harg7 : arg7.IsWhole)
    (arg8 : Memref sig .tc .vmem S16x1536 .f32) (harg8 : arg8.IsWhole) (hc : k0_cond1 i = 1#1)
    (x0 : Vec F S2048x512 .f32) (x1 : Vec F S768x512 .bf16) (x2 : Vec F S1x768 .bf16) (x3 : Vec F S768x3 .bf16)
    (x4 : Vec F S512x1536 .f32) (x5 : Vec F S1x512 .f32) (d : Vec F S16x512 .f32) (S : Vec F S16x1536 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare S
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k0_pay2 (fillRow (i 0).val (k0_pay1 x0 x1 x2 x3) S) x4 x5)
            ∗ owns (c : Thread nD τ) arg8 fullShare (fillRow (i 0).val (k0_pay1 x0 x1 x2 x3) S)) -∗ K ⟨⟩))
      ⊢ wp frame (wpE (defs₀ (F := F)) Variants.none c none) E
          (cc0__pool_kernel i arg1 harg1 arg2 harg2 arg3 harg3 arg4 harg4 arg5 harg5 arg6 harg6 arg7 harg7 arg8 harg8) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0 hf1 hf2 hf3 hf4 hf5 hf6 hf7
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; swap; · iexact H6
    ipureintro
    refine (View.read_writes_full (s := S16x512) _ _ _ _ _).trans
      (congr (congr (congrArg k0_pay2 ?_) (View.readAt_full (s := S512x1536) _ _ _)) (View.readAt_full (s := S1x512) _ _ _))
    exact (View.readAt_full (s := S16x1536) _ _ _).trans (read_pooled _ _ _ _ _ _ _ _ _ _ _)
  iexists _; isplitr; swap; · iexact H7
  ipureintro
  exact read_pooled _ _ _ _ _ _ _ _ _ _ _

end Cert.Proof.PI

end
-- ==== Proof.KernelRun.lean ====
/- The kernel's run: the accumulator filled one row per grid point, the output block computed from it at the last
   point, and from that the contents of the result array at the end. -/
module

public import proofs.«01_k».proof.Proof.KernelBody
public import Idealize.ShloMosaic.Lib.Claim
public import Idealize.ShloMosaic.Lib.Pipeline.ValueKit

@[expose] public section

set_option maxRecDepth 16384

noncomputable section

namespace Cert.Proof.PI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator holds -/

/-- The row the body stores at point `t`: the three pooled vectors of crystal `t`, one after another. -/
def pooledRow (c : Dev nD) (t : Fin cfg0.N) : Vec F S1x1536 .f32 :=
  k0_pay1 (iblk m c 0 t) (iblk m c 1 t) (iblk m c 2 t) (iblk m c 3 t)

/-- The accumulator once every point has stored its row. -/
def acc (c : Dev nD) : Vec F S16x1536 .f32 := fun y =>
  pooledRow m c ⟨(y (0 : Fin 2)).val, lt_of_lt_of_eq (y (0 : Fin 2)).isLt N_0.symm⟩
    (Fin.cons (0 : Fin 1) (Fin.cons (y (1 : Fin 2)) finZeroElim))

/-- The first `k` rows of `S` are those of the full accumulator. -/
def RowsDone (c : Dev nD) (k : ℕ) (S : Vec F S16x1536 .f32) : Prop :=
  ∀ y : S16x1536.Idx, (y (0 : Fin 2)).val < k → S y = acc m c y

/-- The grid's one coordinate at point `t` is `t`. -/
theorem coord_val (t : Fin cfg0.N) : (grid0.coords t 0).val = t.val := by
  have h : (grid0.coords t 0).val = t.val / 1 % 16 := Pipeline.Grid.coords_val t 0 (by decide) rfl
  have ht : t.val < 16 := lt_of_lt_of_eq t.isLt N_0
  omega

/-- Point `t` adds row `t` to the rows already done. -/
theorem RowsDone.step {c : Dev nD} {t : Fin cfg0.N} {S : Vec F S16x1536 .f32} (h : RowsDone m c t.val S) :
    RowsDone m c (t.val + 1) (fillRow (grid0.coords t 0).val (pooledRow m c t) S) := by
  intro y hy
  unfold fillRow
  rw [coord_val]
  split_ifs with h0
  · unfold acc
    congr 2
    exact Fin.ext h0.symm
  · exact h y (by omega)

/-- Once all rows are done the accumulator is the full one. -/
theorem RowsDone.eq {c : Dev nD} {k : ℕ} {S : Vec F S16x1536 .f32} (h : RowsDone m c k S) (hk : 16 ≤ k) : S = acc m c :=
  funext fun y => h y (lt_of_lt_of_le (y (0 : Fin 2)).isLt hk)

/-- The output block the body computes at the last point. -/
def outBlock (c : Dev nD) (t : Fin cfg0.N) : Vec F S16x512 .f32 := k0_pay2 (acc m c) (iblk m c 4 t) (iblk m c 5 t)

/-! ## The proof data -/

/-- The accumulator's buffer, the kernel's scratch. -/
abbrev accM : Memref sig .tc .vmem S16x1536 .f32 := Memref.whole cc0_scratch0

/-- The invariant between points: the first `k` rows of the accumulator are done. -/
def Inv (c : Dev nD) (k : ℕ) : sProp 𝕄 :=
  iprop((∃ S, ⌜RowsDone m c k S⌝ ∗ owns (c : Thread nD τ) accM fullShare S) ∗ (∃ r, prngReg c r))

/-- The proof data: each input buffer keeps its block, the output buffer ends at the computed block, the accumulator's
    rows are tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock m c t
  Φ t := Inv m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outBlock m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a grid point -/

/-- The body's branch is taken at the last point only. -/
theorem last_iff (t : Fin cfg0.N) : k0_cond1 (grid0.coords t) = 1#1 ↔ t.val % 16 = 15 := by
  have ht : t.val < 16 := Nat.lt_of_lt_of_eq t.isLt N_0
  have e0 : (grid0.coords t 0).val = t.val / 1 % 16 := Pipeline.Grid.coords_val t 0 (by decide) rfl
  simp only [k0_cond1, e0]
  word_cmp

/-- The output window is idle at every point but the last. -/
theorem idle_6 (t : Fin cfg0.N) : cfg0.idle 6 (grid0.coords t) = !(k0_cond1 (grid0.coords t) == 1#1) := rfl

/-- An input window's buffer is handed back at its block. -/
theorem leaves_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after_5]

/-- The output buffer is handed back at the computed block at the last point, -/
theorem leaves_6_last (c : Dev nD) (t : Fin cfg0.N) (h : t.val % 16 = 15) :
    (dats m 0 c).leavesExact 6 t = owns (c : Thread nD τ) (st0_6 t) fullShare (outBlock m c t) := by
  unfold Dat.leavesExact
  rw [show cfg0.idle 6 (grid0.coords t) = false from by rw [idle_6, (last_iff t).mpr h]; rfl, after_6]

/-- and as it was found at every other. -/
theorem leaves_6_idle (c : Dev nD) (t : Fin cfg0.N) (h : ¬ t.val % 16 = 15) :
    (dats m 0 c).leavesExact 6 t = iprop(∃ d, owns (c : Thread nD τ) (st0_6 t) fullShare ((dats m 0 c).before 6 t d)) :=
  (dats m 0 c).leavesExact_idle 6 t
    (by rw [idle_6, Bool.not_eq_true', beq_eq_false_iff_ne]; exact fun e => h ((last_iff t).mp e))
    (by rw [← Bool.not_eq_true]; exact fun e => h ((flush0_6 t).mp e))

/-- What the body is called with at point `t`, -/
def bodyPre (c : Dev nD) (t : Fin cfg0.N) : sProp 𝕄 :=
  iprop(Inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop(Inv m c (t.val + 1) ∗ (dats m 0 c).owesAt () t.castSucc
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 1600000 in
/-- The body takes the invariant at point `t` to the invariant at the next, and the buffers to what they are handed
    back at. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [leaves_0, leaves_1, leaves_2, leaves_3, leaves_4, leaves_5]
  unfold Inv
  have hN : t.val < 16 := lt_of_lt_of_eq t.isLt N_0
  by_cases h0 : t.val % 16 = 15
  · rw [leaves_6_last m c t h0]
    iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_last c (grid0.coords t) _ _ _ _ _ _ _ _ _ _ _ _ _ _ _ _ ((last_iff t).mpr h0) (iblk m c 0 t) (iblk m c 1 t)
      (iblk m c 2 t) (iblk m c 3 t) (iblk m c 4 t) (iblk m c 5 t) ((dats m 0 c).before 6 t d6) S Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    rw [show outBlock m c t = k0_pay2 (fillRow (grid0.coords t 0).val (k0_pay1 (iblk m c 0 t) (iblk m c 1 t) (iblk m c 2 t) (iblk m c 3 t)) S)
        (iblk m c 4 t) (iblk m c 5 t) from
      congrArg (fun A => k0_pay2 A (iblk m c 4 t) (iblk m c 5 t)) ((RowsDone.step m hS).eq m (by omega)).symm]
    iintro ⟨H0, H1, H2, H3, H4, H5, H6, HS⟩
    isplitl [HS Hg]
    · isplitl [HS]
      · iexists _; isplitr; swap; · iexact HS
        ipureintro; exact RowsDone.step m hS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [leaves_6_idle m c t h0]
    iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_step c (grid0.coords t) _ _ _ _ _ _ _ _ _ _ _ _ _ _ _ _ (fun h => h0 ((last_iff t).mp h)) (iblk m c 0 t) (iblk m c 1 t)
      (iblk m c 2 t) (iblk m c 3 t) (iblk m c 4 t) (iblk m c 5 t) ((dats m 0 c).before 6 t d6) S Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS Hg]
    · isplitl [HS]
      · iexists _; isplitr; swap; · iexact HS
        ipureintro; exact RowsDone.step m hS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

/-- The body table's row at point `t` is the body called there. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- What the launch hands over gives the invariant before the first point: no row is done yet. -/
theorem inv_of_start (c : Dev nD) : (Pipeline.ΦA spec0 c : sProp 𝕄) ⊢ Inv m c 0 := by
  unfold Pipeline.ΦA Inv; rw [scopedRest0_eq]; simp only [accM, owns_whole]
  iintro ⟨⟨%S, HS⟩, Hg⟩
  isplitl [HS]
  · iexists S; isplitr; · ipureintro; exact fun _ h => absurd h (Nat.not_lt_zero _)
    iexact HS
  iexact Hg

/-- The invariant after the last point gives back what the launch handed over. -/
theorem start_of_inv (c : Dev nD) (k : ℕ) : Inv m c k ⊢ (Pipeline.ΦA spec0 c : sProp 𝕄) := by
  unfold Pipeline.ΦA Inv; rw [scopedRest0_eq]; simp only [accM, owns_whole]
  iintro ⟨⟨%S, -, HS⟩, Hg⟩
  isplitl [HS]
  · iexists S; iexact HS
  iexact Hg

set_option backward.isDefEq.respectTransparency.types false in
/-- Every execution ends, with each array of the pipeline at what the proof data compute, every other buffer as the
    host operations left it, and every semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_of_start m c) (hout := fun c => start_of_inv m c _)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) ((θ_run defs _ _).mono (fun _ h => h.1) (run_main m ρ))

/-- Every semaphore counter ends at zero. -/
theorem quiescent : θ_run defs (onTc (τ := τ) (main (F := F))) ⟨m, fun _ => 0, ρ⟩ (fun r => r.2.sem = fun _ => 0) :=
  (θ_run defs _ _).mono (fun _ h => h.2) (run_main m ρ)

/-! ## The result array -/

/-- The last grid point. -/
abbrev tLast : Fin cfg0.N := ⟨15, lt_of_lt_of_eq (by decide : 15 < 16) N_0.symm⟩

/-- The result array ends at the block computed at the last point. -/
theorem result_eq (c : Dev nD) : (dats m 0 c).arrAt 6 cfg0.N = outBlock m c tLast := by
  refine (dats m 0 c).arrAt_eq_of_after_last 6 tLast (by decide +kernel) _ fun j => ?_
  rw [after_6]
  blk_simp
  rfl

/-- Every execution ends with the result array at that block. -/
theorem result : θ_run defs (onTc (τ := τ) (main (F := F))) ⟨m, fun _ => 0, ρ⟩ (fun r => ∀ c : Dev nD,
      r.2.mem ((c.tc : Thread nD τ).loc main_v27) = outBlock m c tLast) :=
  (θ_run defs _ _).mono (fun _ h c => (h.1 c).1 6 |>.trans (result_eq m c)) (run_main m ρ)

end Cert.Proof.PI

end
-- ==== Proof.SameProgram.lean ====
/- The kernel's program and its reading at the extended reals are one program: they were printed from the same kernel and no
   operation of it was replaced. So what is proved of the second, at any reading of the floats, is true of the first. -/
module

public import proofs.«01_k».proof.Defs
public import proofs.«01_k».proof.Proof.Gen.Kernel
public import proofs.«01_k».proof.Proof.KernelRun

@[expose] public section

noncomputable section

namespace Cert.Proof.P

open Idealize.ShloMosaic Idealize.SL.Sem

variable {F : FTy → Type} [FloatOps F]

/-- The kernel function is the same, -/
theorem kernel_eq : Cert.Kernel.cc0__pool_kernel (F := F) = Cert.KernelIdeal.cc0__pool_kernel := by
  funext i
  rfl

/-- the table of the kernel functions is, whose only entry is that function, -/
theorem bodies_eq : Cert.Kernel.defs₀ (F := F) = Cert.KernelIdeal.defs₀ := by
  refine congrArg Defs.onTc ?_
  funext l a
  rcases l with ⟨_ | n, h⟩
  · obtain ⟨t, s⟩ := a
    exact rfl
  · exact absurd h (by omega)

/-- the table of everything that is called is, -/
theorem defs_eq : Cert.Kernel.defs (F := F) = Cert.KernelIdeal.defs :=
  congrArg (Pipeline.defs (Cert.KernelIdeal.pcfgs (F := F))) bodies_eq

/-- and so is the main function. -/
theorem main_eq : Cert.Kernel.main (F := F) = Cert.KernelIdeal.main := rfl

/-- Runs of the two programs from one state end alike. -/
theorem runs_eq : θ_run (Cert.Kernel.defs (F := F)) (onTc (τ := Cert.Kernel.τ) (Cert.Kernel.main (F := F)))
    = θ_run (Cert.KernelIdeal.defs (F := F)) (onTc (τ := Cert.KernelIdeal.τ) (Cert.KernelIdeal.main (F := F))) :=
  congrArg₂ (fun D p => θ_run D (onTc p)) defs_eq main_eq

/-- So what holds at the end of every run of the second holds at the end of every run of the first. -/
theorem run_of {s} {Q} (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [runs_eq]
  exact h

/-- The kernel's program runs, leaves its arguments unchanged and ends with every counter at zero. -/
theorem frame : Cert.quiescent_Kernel := fun m g _ =>
  run_of (F := Bits) (θ_run_and (PI.unchanged (F := Bits) m g) (PI.quiescent (F := Bits) m g))

end Cert.Proof.P
-- ==== Proof.ScatterColumn.lean ====
/- The scatter by which the second layer's weights are laid out: one column's segment of 256 rows of a 768 × 3 array is
   set, every other element kept. -/
module

public import proofs.«01_k».proof.Proof.Gen.KernelIdeal
public import Idealize.ShloMosaic.Lib.Routing.OpsSet
public import Idealize.ShloMosaic.Lib.Pointwise

@[expose] public section

set_option maxRecDepth 16384

noncomputable section

namespace Cert.Proof.PI

open Idealize.ShloMosaic
open Cert.KernelIdeal

variable {α : Type}

/-- The scatter's dimension numbers. -/
abbrev dcol : ScatterDims S768x3 S2 S256 := scatter_S768x3_S2_S256_0_1_01_0

/-- The window starts at the row the first index word names, -/
theorem start_row (j : S256.Idx) (idx : IVec S2 32) : ScatterDims.start dcol j idx (0 : Fin 2) = (idx (ix1 0)).toInt := by
  unfold ScatterDims.start
  rw [dif_pos (show (0 : Fin 2) ∈ dcol.scatterDimsToOperandDims from (by decide : (0 : Fin 2) ∈ ([0, 1] : List (Fin 2))))]
  congr 2
  funext b
  match b with
  | ⟨0, _⟩ => rfl

/-- and at the column the second names. -/
theorem start_col (j : S256.Idx) (idx : IVec S2 32) : ScatterDims.start dcol j idx (1 : Fin 2) = (idx (ix1 1)).toInt := by
  unfold ScatterDims.start
  rw [dif_pos (show (1 : Fin 2) ∈ dcol.scatterDimsToOperandDims from (by decide : (1 : Fin 2) ∈ ([0, 1] : List (Fin 2))))]
  congr 2
  funext b
  match b with
  | ⟨0, _⟩ => rfl

/-- The window runs down the rows -/
theorem window_row (j : S256.Idx) : ScatterDims.window dcol j (0 : Fin 2) = (j (0 : Fin 1)).val := rfl

/-- of one column. -/
theorem window_col (j : S256.Idx) : ScatterDims.window dcol j (1 : Fin 2) = 0 := rfl

/-- Update `j` lands `j` rows below the start, in the start's column. -/
theorem lands_iff (j : S256.Idx) (idx : IVec S2 32) (r c : ℕ) (hr : r + 256 ≤ 768) (hc : c < 3)
    (h0 : (idx (ix1 0)).toInt = r) (h1 : (idx (ix1 1)).toInt = c) (y : S768x3.Idx) :
    ScatterDims.resultIdx? dcol j idx = some y ↔ (y (0 : Fin 2)).val = r + (j (0 : Fin 1)).val ∧ (y (1 : Fin 2)).val = c := by
  have hj : (j (0 : Fin 1)).val < 256 := (j (0 : Fin 1)).isLt
  have hs0 := start_row j idx
  have hs1 := start_col j idx
  rw [h0] at hs0
  rw [h1] at hs1
  unfold ScatterDims.resultIdx?
  rw [dif_pos (fun a => by
    match a with
    | ⟨0, _⟩ =>
      show 0 ≤ ScatterDims.start dcol j idx (0 : Fin 2) + (ScatterDims.window dcol j (0 : Fin 2) : ℕ) ∧ ScatterDims.start dcol j idx (0 : Fin 2) + (ScatterDims.window dcol j (0 : Fin 2) : ℕ) < (768 : ℕ)
      rw [hs0, window_row]; omega
    | ⟨1, _⟩ =>
      show 0 ≤ ScatterDims.start dcol j idx (1 : Fin 2) + (ScatterDims.window dcol j (1 : Fin 2) : ℕ) ∧ ScatterDims.start dcol j idx (1 : Fin 2) + (ScatterDims.window dcol j (1 : Fin 2) : ℕ) < (3 : ℕ)
      rw [hs1, window_col]; omega)]
  rw [Option.some.injEq]
  constructor
  · rintro rfl
    constructor
    · show (ScatterDims.start dcol j idx (0 : Fin 2) + (ScatterDims.window dcol j (0 : Fin 2) : ℕ)).toNat = _
      rw [hs0, window_row]; omega
    · show (ScatterDims.start dcol j idx (1 : Fin 2) + (ScatterDims.window dcol j (1 : Fin 2) : ℕ)).toNat = _
      rw [hs1, window_col]; omega
  · rintro ⟨e0, e1⟩
    funext a
    apply Fin.ext
    match a with
    | ⟨0, _⟩ =>
      show (ScatterDims.start dcol j idx (0 : Fin 2) + (ScatterDims.window dcol j (0 : Fin 2) : ℕ)).toNat = (y (0 : Fin 2)).val
      rw [hs0, window_row]; omega
    | ⟨1, _⟩ =>
      show (ScatterDims.start dcol j idx (1 : Fin 2) + (ScatterDims.window dcol j (1 : Fin 2) : ℕ)).toNat = (y (1 : Fin 2)).val
      rw [hs1, window_col]; omega

/-- Inside the segment the scatter holds the update, -/
theorem scatter_in (x0 : S768x3.Idx → α) (idx : IVec S2 32) (upd : S256.Idx → α) (r c : ℕ) (hr : r + 256 ≤ 768) (hc : c < 3)
    (h0 : (idx (ix1 0)).toInt = r) (h1 : (idx (ix1 1)).toInt = c) (y : S768x3.Idx) (j : S256.Idx)
    (hy0 : (y (0 : Fin 2)).val = r + (j (0 : Fin 1)).val) (hy1 : (y (1 : Fin 2)).val = c) :
    Host.scatter dcol (fun _ b => b) x0 idx upd y = upd j :=
  Routing.scatter_set_hit dcol x0 idx upd y (upd j) (fun k hk => congrArg upd (funext fun a => Fin.ext (by
    have h := ((lands_iff k idx r c hr hc h0 h1 y).mp hk).1
    match a with
    | ⟨0, _⟩ =>
      show (k (0 : Fin 1)).val = (j (0 : Fin 1)).val
      omega))) j ((lands_iff j idx r c hr hc h0 h1 y).mpr ⟨hy0, hy1⟩)

/-- and outside it the operand. -/
theorem scatter_out (x0 : S768x3.Idx → α) (idx : IVec S2 32) (upd : S256.Idx → α) (r c : ℕ) (hr : r + 256 ≤ 768) (hc : c < 3)
    (h0 : (idx (ix1 0)).toInt = r) (h1 : (idx (ix1 1)).toInt = c) (y : S768x3.Idx)
    (hy : ¬ ((y (1 : Fin 2)).val = c ∧ r ≤ (y (0 : Fin 2)).val ∧ (y (0 : Fin 2)).val < r + 256)) :
    Host.scatter dcol (fun _ b => b) x0 idx upd y = x0 y :=
  Routing.scatter_set_miss dcol x0 idx upd y fun k hk => hy (by
    have h := (lands_iff k idx r c hr hc h0 h1 y).mp hk
    have hk : (k (0 : Fin 1)).val < 256 := (k (0 : Fin 1)).isLt
    omega)

end Cert.Proof.PI

end
-- ==== Proof.Softmax.lean ====
/- Averages weighted by a softmax, over the extended reals with finite arguments: neither the shift subtracted before the
   exponential nor the place of the division matters. -/
module

public import Idealize.ShloMosaic.PureOps.Ideal

@[expose] public section

noncomputable section

namespace Cert.Proof.Math

open Idealize.ShloMosaic

variable {ι : Type*}

/-- An extended real that is a real number. -/
def IsReal (a : EReal) : Prop := ∃ r : ℝ, a = r

theorem IsReal.coe (r : ℝ) : IsReal r := ⟨r, rfl⟩

theorem IsReal.zero : IsReal 0 := ⟨0, rfl⟩

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.max {a b : EReal} (ha : IsReal a) (hb : IsReal b) : IsReal (max a b) := by
  rcases max_choice a b with h | h <;> rw [h] <;> assumption

/-- The coercion commutes with finite sums. -/
theorem coe_sum (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem IsReal.sum (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

variable [Fintype ι]

/-- The largest of finitely many extended reals, −∞ if there is none. -/
def top (s : ι → EReal) : EReal := Finset.fold max ⊥ s Finset.univ

/-- The largest of finitely many real numbers is a real number. -/
theorem top_real [Nonempty ι] {s : ι → EReal} (h : ∀ i, IsReal (s i)) : IsReal (top s) := by
  classical
  have key : ∀ S : Finset ι, S.Nonempty → IsReal (Finset.fold max ⊥ s S) := by
    intro S hS
    induction hS using Finset.Nonempty.cons_induction with
    | singleton a => rw [Finset.fold_singleton, max_eq_left bot_le]; exact h a
    | cons a S ha _ ih => rw [Finset.fold_cons]; exact (h a).max ih
  exact key _ Finset.univ_nonempty

/-- The average of `x` with the weights `exp (s - top s)`, the division made once at the end. -/
def pooledOnce (s x : ι → EReal) : EReal :=
  (∑ i, Ideal.exp (s i - top s) * x i) * Ideal.div 1 (∑ i, Ideal.exp (s i - top s))

/-- The average of `x` with the weights of the softmax of `s`, each weight divided on its own. -/
def pooledEach (s x : ι → EReal) : EReal :=
  ∑ i, Ideal.div (Ideal.exp (s i - max ⊥ (top s))) (∑ i, Ideal.exp (s i - max ⊥ (top s))) * x i

/-- A sum of exponentials of real numbers, one at least, is positive. -/
theorem sum_exp_pos [Nonempty ι] (σ : ι → ℝ) : 0 < ∑ i, Real.exp (σ i) :=
  Finset.sum_pos (fun i _ => Real.exp_pos _) Finset.univ_nonempty

/-- The average in real numbers, without a shift. -/
def average (σ ξ : ι → ℝ) : ℝ := (∑ i, Real.exp (σ i) * ξ i) / ∑ i, Real.exp (σ i)

/-- A shift of the scores does not change the average. -/
theorem average_shift [Nonempty ι] (σ ξ : ι → ℝ) (μ : ℝ) : average (fun i => σ i + μ) ξ = average σ ξ := by
  unfold average
  have e : ∀ i, Real.exp (σ i + μ) = Real.exp μ * Real.exp (σ i) := fun i => by rw [Real.exp_add, mul_comm]
  simp only [e, mul_assoc]
  rw [← Finset.mul_sum, ← Finset.mul_sum, mul_div_mul_left _ _ (Real.exp_ne_zero μ)]

/-- On real numbers the average with one division is the real one, -/
theorem pooledOnce_eq [Nonempty ι] (σ ξ : ι → ℝ) : pooledOnce (fun i => (σ i : EReal)) (fun i => (ξ i : EReal)) = average σ ξ := by
  obtain ⟨μ, hμ⟩ := top_real (s := fun i => (σ i : EReal)) fun i => IsReal.coe _
  have hz : (∑ i, Real.exp (σ i - μ)) ≠ 0 := (sum_exp_pos fun i => σ i - μ).ne'
  unfold pooledOnce
  rw [hμ]
  simp only [← EReal.coe_sub, Ideal.exp_coe, ← EReal.coe_mul, ← coe_sum]
  rw [Ideal.div_coe hz, one_mul, ← EReal.coe_mul, ← average_shift σ ξ (-μ)]
  unfold average
  simp only [← sub_eq_add_neg]
  rw [mul_one_div]

/-- and so is the average with each weight divided on its own. -/
theorem pooledEach_eq [Nonempty ι] (σ ξ : ι → ℝ) : pooledEach (fun i => (σ i : EReal)) (fun i => (ξ i : EReal)) = average σ ξ := by
  obtain ⟨μ, hμ⟩ := top_real (s := fun i => (σ i : EReal)) fun i => IsReal.coe _
  have hz : (∑ i, Real.exp (σ i - μ)) ≠ 0 := (sum_exp_pos fun i => σ i - μ).ne'
  unfold pooledEach
  rw [hμ, max_eq_right bot_le]
  simp only [← EReal.coe_sub, Ideal.exp_coe, ← coe_sum, Ideal.div_coe hz, ← EReal.coe_mul]
  rw [← average_shift σ ξ (-μ)]
  unfold average
  simp only [← sub_eq_add_neg]
  rw [Finset.sum_div]
  congr 1
  exact Finset.sum_congr rfl fun i _ => by ring

/-- The two averages agree on real numbers, and the second may have its scores shifted by a real number. -/
theorem pooledOnce_eq_pooledEach [Nonempty ι] {s x : ι → EReal} {β : EReal} (hs : ∀ i, IsReal (s i)) (hx : ∀ i, IsReal (x i))
    (hβ : IsReal β) : pooledOnce s x = pooledEach (fun i => s i + β) x := by
  choose σ hσ using hs
  choose ξ hξ using hx
  obtain ⟨b, rfl⟩ := hβ
  obtain rfl : s = fun i => (σ i : EReal) := funext hσ
  obtain rfl : x = fun i => (ξ i : EReal) := funext hξ
  simp only [← EReal.coe_add]
  rw [pooledOnce_eq, pooledEach_eq (fun i => σ i + b), average_shift]

end Cert.Proof.Math

end
-- ==== Proof.Spec.lean ====
/- The result as a formula over the argument arrays: attention scores per atom and level, features averaged per crystal
   and level with the softmax of the scores, and a linear layer over the concatenated averages. -/
module

public import proofs.«01_k».proof.Proof.Softmax
public import Idealize.ShloMosaic.Lib.Pointwise

@[expose] public section

noncomputable section

namespace Cert.Proof.Math

open Idealize.ShloMosaic

/-- The array types: atom features, -/
abbrev Feat := (⟨2, ![32768, 512]⟩ : Shape).Idx → EReal
/-- first-layer weights of the three levels, -/
abbrev Weight1 := (⟨3, ![3, 256, 512]⟩ : Shape).Idx → EReal
/-- first-layer biases, -/
abbrev Bias1 := (⟨2, ![3, 256]⟩ : Shape).Idx → EReal
/-- second-layer weights, -/
abbrev Weight2 := (⟨3, ![3, 1, 256]⟩ : Shape).Idx → EReal
/-- second-layer biases, -/
abbrev Bias2 := (⟨2, ![3, 1]⟩ : Shape).Idx → EReal
/-- the last layer's weights -/
abbrev WeightF := (⟨2, ![512, 1536]⟩ : Shape).Idx → EReal
/-- and its bias. -/
abbrev BiasF := (⟨1, ![512]⟩ : Shape).Idx → EReal

/-- Atom `i` of crystal `t`, as a row of all the atoms. -/
def atom (t : Fin 16) (i : Fin 2048) : Fin 32768 := ⟨2048 * t.val + i.val, by omega⟩

/-- The level a column of the concatenated averages belongs to, -/
def lev (q : Fin 1536) : Fin 3 := ⟨q.val / 512, by omega⟩

/-- and the feature it averages. -/
def col (q : Fin 1536) : Fin 512 := ⟨q.val % 512, by omega⟩

/-- The attention score of level `l` for atom `i` of crystal `t`, without the second layer's bias. -/
def score (A : Feat) (W : Weight1) (b : Bias1) (v : Weight2) (l : Fin 3) (t : Fin 16) (i : Fin 2048) : EReal :=
  ∑ j : Fin 256, max (∑ k : Fin 512, A (ix2 (atom t i) k) * W (ix3 l j k) + b (ix2 l j)) 0 * v (ix3 l 0 j)

/-- The result with the averages divided once and no second-layer bias. -/
def outOnce (A : Feat) (W : Weight1) (b : Bias1) (v : Weight2) (Wf : WeightF) (bf : BiasF) (t : Fin 16) (d : Fin 512) : EReal :=
  ∑ q : Fin 1536, pooledOnce (score A W b v (lev q) t) (fun i => A (ix2 (atom t i) (col q))) * Wf (ix2 d q) + bf (ix1 d)

/-- The result with the softmax's weights divided each and the second-layer bias added to the scores. -/
def outEach (A : Feat) (W : Weight1) (b : Bias1) (v : Weight2) (β : Bias2) (Wf : WeightF) (bf : BiasF) (t : Fin 16) (d : Fin 512) :
    EReal :=
  ∑ q : Fin 1536, pooledEach (fun i => score A W b v (lev q) t i + β (ix2 (lev q) 0)) (fun i => A (ix2 (atom t i) (col q)))
    * Wf (ix2 d q) + bf (ix1 d)

variable {A : Feat} {W : Weight1} {b : Bias1} {v : Weight2} {β : Bias2}

/-- Real arguments give real scores. -/
theorem score_real (hA : ∀ j, IsReal (A j)) (hW : ∀ j, IsReal (W j)) (hb : ∀ j, IsReal (b j)) (hv : ∀ j, IsReal (v j))
    (l : Fin 3) (t : Fin 16) (i : Fin 2048) : IsReal (score A W b v l t i) :=
  IsReal.sum _ fun _ => (((IsReal.sum _ fun _ => (hA _).mul (hW _)).add (hb _)).max IsReal.zero).mul (hv _)

/-- The two results agree where the features and the attention layers' parameters are real. -/
theorem outOnce_eq_outEach (hA : ∀ j, IsReal (A j)) (hW : ∀ j, IsReal (W j)) (hb : ∀ j, IsReal (b j)) (hv : ∀ j, IsReal (v j))
    (hβ : ∀ j, IsReal (β j)) (Wf : WeightF) (bf : BiasF) (t : Fin 16) (d : Fin 512) :
    outOnce A W b v Wf bf t d = outEach A W b v β Wf bf t d := by
  unfold outOnce outEach
  congr 1
  refine Finset.sum_congr rfl fun q _ => ?_
  rw [pooledOnce_eq_pooledEach (fun i => score_real hA hW hb hv _ _ i) (fun i => hA _) (hβ (ix2 (lev q) 0))]

/-- The word of negative infinity. -/
theorem negInf : Ideal.ofBits FTy.f32 4286578688#32 = ⊥ := by
  simp [Ideal.ofBits, Ideal.ieee]

end Cert.Proof.Math

end
-- ==== Proof.KernelValue.lean ====
/- What the kernel's blocks hold, element by element, and what the result block is in terms of the argument arrays. -/
module

public import proofs.«01_k».proof.Proof.KernelRun
public import proofs.«01_k».proof.Proof.ScatterColumn
public import proofs.«01_k».proof.Proof.Spec

@[expose] public section

set_option maxRecDepth 16384

noncomputable section

namespace Cert.Proof.PI

open Idealize.ShloMosaic Idealize.ShloMosaic.TcCoe
open Cert.KernelIdeal Cert.KernelIdeal.Gen Cert.Proof.Math

variable (m : (ℓ : Loc nD τ sig) → Buf (Elt Ideal) ℓ)

/-! ## The blocks -/

/-- Where each input window's block lies at point `t`: window 0 moves one block down per point, the others stay. -/
theorem index_facts : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] := by decide +kernel

/-- The level a row of the stacked first layer belongs to, -/
def lvl (j : Fin 768) : Fin 3 := ⟨j.val / 256, by omega⟩

/-- and its place in that level. -/
def unit (j : Fin 768) : Fin 256 := ⟨j.val % 256, by omega⟩

/-- The grid point of crystal `t`. -/
abbrev pt (t : Fin 16) : Fin cfg0.N := ⟨t.val, lt_of_lt_of_eq t.isLt N_0.symm⟩

/-- Window 0 at point `t` holds the features of crystal `t`. -/
theorem x_apply (c : Dev nD) (t : Fin 16) (i : Fin 2048) (k : Fin 512) :
    iblk m c 0 (pt t) (ix2 i k) = m ((c : Thread nD τ).loc main_arg0) (ix2 (atom t i) k) := by
  unfold atom
  blk_ext [iblk, V, index_facts (pt t)]

/-- Window 1 holds the first layers' weights, the levels stacked. -/
theorem w_apply (c : Dev nD) (t : Fin cfg0.N) (j : Fin 768) (k : Fin 512) :
    iblk m c 1 t (ix2 j k) = m ((c : Thread nD τ).loc main_arg2) (ix3 (lvl j) (unit j) k) := by
  unfold lvl unit
  blk_ext! [iblk, V, index_facts t]

/-- Window 2 holds the first layers' biases, the levels stacked. -/
theorem b_apply (c : Dev nD) (t : Fin cfg0.N) (j : Fin 768) :
    iblk m c 2 t (ix2 0 j) = m ((c : Thread nD τ).loc main_arg3) (ix2 (lvl j) (unit j)) := by
  unfold lvl unit
  blk_ext! [iblk, V, index_facts t]

/-- Window 4 holds the last layer's weights, -/
theorem wf_apply (c : Dev nD) (t : Fin cfg0.N) (i : Fin 512) (k : Fin 1536) :
    iblk m c 4 t (ix2 i k) = m ((c : Thread nD τ).loc main_arg6) (ix2 i k) := by
  blk_ext! [iblk, V, index_facts t]

/-- and window 5 its bias. -/
theorem bf_apply (c : Dev nD) (t : Fin cfg0.N) (k : Fin 512) :
    iblk m c 5 t (ix2 0 k) = m ((c : Thread nD τ).loc main_arg7) (ix1 k) := by
  blk_ext! [iblk, V, index_facts t]

/-- The two words a scatter starts at: the row, -/
theorem start_word_0 (a b : BitVec 32) :
    concatenate S2 0 [⟨S1, broadcastInDim S1 ![] bcast_S_S1 (constantI S_ 32 a)⟩, ⟨S1, broadcastInDim S1 ![] bcast_S_S1 (constantI S_ 32 b)⟩]
      concatenates_S1_S1_S2_d0 (ix1 0) = a := by
  pointwise

/-- and the column. -/
theorem start_word_1 (a b : BitVec 32) :
    concatenate S2 0 [⟨S1, broadcastInDim S1 ![] bcast_S_S1 (constantI S_ 32 a)⟩, ⟨S1, broadcastInDim S1 ![] bcast_S_S1 (constantI S_ 32 b)⟩]
      concatenates_S1_S1_S2_d0 (ix1 1) = b := by
  pointwise

/-- One level's second-layer weights, cut out of the array and flattened. -/
theorem seg0 (v : Vec Ideal S3x1x256 .f32) (j : Fin 256) :
    truncf .bf16 (shapeCast S256 (extractStridedSlice S1x1x256 ![0, 0, 0] v slices_S3x1x256_S1x1x256_0_0_0)
      shapeCasts_S1x1x256_S256 : FVec Ideal S256 .f32) bitsLt_bf16_f32 (ix1 j) = v (ix3 0 0 j) := by
  pointwise

theorem seg1 (v : Vec Ideal S3x1x256 .f32) (j : Fin 256) :
    truncf .bf16 (shapeCast S256 (extractStridedSlice S1x1x256 ![1, 0, 0] v slices_S3x1x256_S1x1x256_1_0_0)
      shapeCasts_S1x1x256_S256 : FVec Ideal S256 .f32) bitsLt_bf16_f32 (ix1 j) = v (ix3 1 0 j) := by
  pointwise

theorem seg2 (v : Vec Ideal S3x1x256 .f32) (j : Fin 256) :
    truncf .bf16 (shapeCast S256 (extractStridedSlice S1x1x256 ![2, 0, 0] v slices_S3x1x256_S1x1x256_2_0_0)
      shapeCasts_S1x1x256_S256 : FVec Ideal S256 .f32) bitsLt_bf16_f32 (ix1 j) = v (ix3 2 0 j) := by
  pointwise

/-- Window 3 holds the second layers' weights, each level's in a column of its own and in the rows of its own level,
    and zero elsewhere. -/
theorem u_apply (c : Dev nD) (t : Fin cfg0.N) (j : Fin 768) (l : Fin 3) :
    iblk m c 3 t (ix2 j l) = (if lvl j = l then (show EReal from m ((c : Thread nD τ).loc main_arg4) (ix3 l 0 (unit j))) else 0) := by
  blk_simp [iblk, V, index_facts t]
  entry_read
  have e : ((View.whole main_v25).slice (win0_3.rect t)).emb (ix2 j l) = ix2 j l := by
    blk_ext [index_facts t]
  rw [e]
  have hj := j.isLt
  have hl : ((ix2 j l : S768x3.Idx) 1).val = l.val := rfl
  have hr : ((ix2 j l : S768x3.Idx) 0).val = j.val := rfl
  have hu : ((ix1 (unit j) : S256.Idx) 0).val = j.val % 256 := rfl
  have hlv : lvl j = l ↔ j.val / 256 = l.val := Fin.ext_iff
  rw [if_congr hlv rfl rfl]
  by_cases h2 : j.val / 256 = 2 ∧ l.val = 2
  · rw [scatter_in _ _ _ 512 2 (by omega) (by omega) (by rw [start_word_0]; rfl) (by rw [start_word_1]; rfl) _ (ix1 (unit j))
      (by omega) (by omega), if_pos (by omega)]
    obtain rfl : l = 2 := Fin.ext h2.2
    exact seg2 _ _
  rw [scatter_out _ _ _ 512 2 (by omega) (by omega) (by rw [start_word_0]; rfl) (by rw [start_word_1]; rfl) _ (by omega)]
  by_cases h1 : j.val / 256 = 1 ∧ l.val = 1
  · rw [scatter_in _ _ _ 256 1 (by omega) (by omega) (by rw [start_word_0]; rfl) (by rw [start_word_1]; rfl) _ (ix1 (unit j))
      (by omega) (by omega), if_pos (by omega)]
    obtain rfl : l = 1 := Fin.ext h1.2
    exact seg1 _ _
  rw [scatter_out _ _ _ 256 1 (by omega) (by omega) (by rw [start_word_0]; rfl) (by rw [start_word_1]; rfl) _ (by omega)]
  by_cases h0 : j.val / 256 = 0 ∧ l.val = 0
  · rw [scatter_in _ _ _ 0 0 (by omega) (by omega) (by rw [start_word_0]; rfl) (by rw [start_word_1]; rfl) _ (ix1 (unit j))
      (by omega) (by omega), if_pos (by omega)]
    obtain rfl : l = 0 := Fin.ext h0.2
    exact seg0 _ _
  rw [scatter_out _ _ _ 0 0 (by omega) (by omega) (by rw [start_word_0]; rfl) (by rw [start_word_1]; rfl) _ (by omega),
    if_neg (by omega)]
  pointwise

/-! ## The stored row and the result block -/

/-- A sum over the stacked rows in which only the rows of level `l` count is the sum over that level. -/
theorem sum_level (f g : Fin 3 → Fin 256 → EReal) (l : Fin 3) :
    ∑ j : Fin 768, f (lvl j) (unit j) * (if lvl j = l then g l (unit j) else 0) = ∑ j : Fin 256, f l j * g l j := by
  have h : ∑ j : Fin 768, f (lvl j) (unit j) * (if lvl j = l then g l (unit j) else 0)
      = ∑ p : Fin 3 × Fin 256, f p.1 p.2 * (if p.1 = l then g l p.2 else 0) :=
    Fintype.sum_equiv (finProdFinEquiv (m := 3) (n := 256)).symm _ _ fun j => rfl
  rw [h, Fintype.sum_prod_type, Finset.sum_eq_single l]
  · exact Finset.sum_congr rfl fun j _ => by rw [if_pos rfl]
  · exact fun p _ hp => Finset.sum_eq_zero fun j _ => by rw [if_neg hp, mul_zero]
  · exact fun h => absurd (Finset.mem_univ l) h

/-- The row a point stores, from the blocks it reads. -/
theorem pay1_apply (x : Vec Ideal S2048x512 .f32) (w : Vec Ideal S768x512 .bf16) (b : Vec Ideal S1x768 .bf16)
    (u : Vec Ideal S768x3 .bf16) (q : Fin 1536) :
    k0_pay1 (F := Ideal) x w b u (ix2 0 q)
      = pooledOnce (fun i : Fin 2048 => ∑ j : Fin 768, max (∑ k : Fin 512, x (ix2 i k) * w (ix2 j k) + b (ix2 0 j)) 0 * u (ix2 j (lev q)))
          (fun i => x (ix2 i (col q))) := by
  unfold pooledOnce top lev col
  pointwise [k0_pay1]
  rw [negInf]

/-- The result block, from the accumulator and the last layer's blocks. -/
theorem pay2_apply (x : Vec Ideal S16x1536 .f32) (w : Vec Ideal S512x1536 .f32) (b : Vec Ideal S1x512 .f32)
    (t : Fin 16) (d : Fin 512) :
    k0_pay2 (F := Ideal) x w b (ix2 t d) = ∑ q : Fin 1536, x (ix2 t q) * w (ix2 d q) + b (ix2 0 d) := by
  pointwise [k0_pay2]

/-- The row a point stores, from blocks that hold what the arguments do. -/
theorem row_of_blocks (A : Feat) (W : Weight1) (b : Bias1) (v : Weight2) (t : Fin 16) (q : Fin 1536)
    (x : Vec Ideal S2048x512 .f32) (w : Vec Ideal S768x512 .bf16) (b' : Vec Ideal S1x768 .bf16) (u : Vec Ideal S768x3 .bf16)
    (hx : ∀ i k, x (ix2 i k) = A (ix2 (atom t i) k)) (hw : ∀ j k, w (ix2 j k) = W (ix3 (lvl j) (unit j) k))
    (hb : ∀ j, b' (ix2 0 j) = b (ix2 (lvl j) (unit j))) (hu : ∀ j l, u (ix2 j l) = if lvl j = l then v (ix3 l 0 (unit j)) else 0) :
    k0_pay1 (F := Ideal) x w b' u (ix2 0 q) = pooledOnce (score A W b v (lev q) t) (fun i => A (ix2 (atom t i) (col q))) := by
  rw [pay1_apply]
  refine congrArg₂ pooledOnce (funext fun i => ?_) (funext fun i => hx i (col q))
  unfold score
  simp only [hx, hw, hb, hu]
  exact sum_level (fun l j => max (∑ k : Fin 512, A (ix2 (atom t i) k) * W (ix3 l j k) + b (ix2 l j)) 0) (fun l j => v (ix3 l 0 j)) (lev q)

/-- Row `t` of the accumulator: at each column the average of a feature of crystal `t`, for a level. -/
theorem acc_apply (c : Dev nD) (t : Fin 16) (q : Fin 1536) :
    acc m c (ix2 t q)
      = pooledOnce (score (m ((c : Thread nD τ).loc main_arg0)) (m ((c : Thread nD τ).loc main_arg2)) (m ((c : Thread nD τ).loc main_arg3))
          (m ((c : Thread nD τ).loc main_arg4)) (lev q) t) (fun i => m ((c : Thread nD τ).loc main_arg0) (ix2 (atom t i) (col q))) := by
  have h : acc m c (ix2 t q) = k0_pay1 (F := Ideal) (iblk m c 0 (pt t)) (iblk m c 1 (pt t)) (iblk m c 2 (pt t)) (iblk m c 3 (pt t)) (ix2 0 q) := by
    unfold acc pooledRow
    rfl
  rw [h]
  exact row_of_blocks _ _ _ _ t q _ _ _ _ (x_apply m c t) (w_apply m c (pt t)) (b_apply m c (pt t)) (u_apply m c (pt t))

/-- The result block in terms of the argument arrays. -/
theorem outBlock_apply (c : Dev nD) (t : Fin 16) (d : Fin 512) :
    outBlock m c tLast (ix2 t d)
      = outOnce (m ((c : Thread nD τ).loc main_arg0)) (m ((c : Thread nD τ).loc main_arg2)) (m ((c : Thread nD τ).loc main_arg3))
          (m ((c : Thread nD τ).loc main_arg4)) (m ((c : Thread nD τ).loc main_arg6)) (m ((c : Thread nD τ).loc main_arg7)) t d := by
  unfold outBlock outOnce
  refine (pay2_apply _ _ _ t d).trans ?_
  refine congrArg₂ (· + ·) (Finset.sum_congr rfl fun q _ => ?_) (bf_apply m c tLast d)
  exact congrArg₂ (· * ·) (acc_apply m c t q) (wf_apply m c tLast d q)

end Cert.Proof.PI

end
-- ==== Proof.RefTake.lean ====
/- The reference's first step: the features of each crystal's atoms, taken from the array of all atoms by index. Where the
   indices name the atoms in order, the taken array is the given one. -/
module

public import proofs.«01_k».proof.Proof.Gen.ReferenceIdeal
public import proofs.«01_k».proof.Proof.Spec
public import Idealize.ShloMosaic.Lib.Affine
public import Idealize.ShloMosaic.Lib.StableHlo.Predicate
public import Idealize.ShloMosaic.Lib.ReduceAll

@[expose] public section

set_option maxRecDepth 16384

noncomputable section

namespace Cert.Proof.RI

open Idealize.ShloMosaic
open Cert.ReferenceIdeal Cert.Proof.Math

/-- The dimension numbers of the gather. -/
abbrev dtake : GatherDims S32768x512 S16x2048x1 S16x2048x512 := gather_S32768x512_S16x2048x1_S16x2048x512_2_0_n_n_0_2_1512

/-- The indices name the atoms in order. -/
def InOrder (I : IVec S16x2048 32) : Prop := ∀ (t : Fin 16) (i : Fin 2048), I (ix2 t i) = BitVec.ofNat 32 (atom t i).val

/-- The row numbers: an index below zero counts from the end. -/
def rows (I : IVec S16x2048 32) : IVec S16x2048x1 32 :=
  broadcastInDim S16x2048x1 ![0, 1] Facts₀.bcast_S16x2048_S16x2048x1_0_1
    (select (cmpi .slt I (broadcastInDim S16x2048 ![] Facts₀.bcast_S_S16x2048 (constantI S_ 32 0#32)))
      (addi I (broadcastInDim S16x2048 ![] Facts₀.bcast_S_S16x2048 (constantI S_ 32 32768#32))) I)

/-- Which row numbers are those of a row. -/
def inRange (r : IVec S16x2048x1 32) : IVec S16x2048 1 :=
  Host.reduce IntOp.andi
    (andi (cmpi .sge r (broadcastInDim S16x2048x1 ![] Facts₀.bcast_S_S16x2048x1 (constantI S_ 32 0#32)))
      (cmpi .sle r (broadcastInDim S16x2048x1 ![0, 1, 2] Facts₀.bcast_S1x1x1_S16x2048x1_0_1_2
        (broadcastInDim S1x1x1 ![2] Facts₀.bcast_S1_S1x1x1_2 (constantI S1 32 32767#32)))))
    (constantI S_ 1 1#1) Facts₀.reducesTo_S16x2048x1_S16x2048_d2 Facts₀.h_S_

/-- The rows taken, a fixed value where the row number is not that of a row. -/
def taken (A : FVec Ideal S32768x512 .f32) (I : IVec S16x2048 32) : FVec Ideal S16x2048x512 .f32 :=
  select (broadcastInDim S16x2048x512 ![0, 1] Facts₀.bcast_S16x2048_S16x2048x512_0_1 (inRange (rows I)))
    (Host.gather dtake A (rows I)) (broadcastInDim S16x2048x512 ![] Facts₀.bcast_S_S16x2048x512 (constant S_ .f32 0x7FC00000#32))

/-- The number of an atom as a signed word. -/
theorem atom_toInt (t : Fin 16) (i : Fin 2048) : (BitVec.ofNat 32 (atom t i).val).toInt = (atom t i).val := by
  have h := (atom t i).isLt
  exact StableHlo.Predicate.toInt_ofNat_small _ (by omega)

/-- In order, the row number at crystal `t`, place `i` is that of its atom. -/
theorem rows_apply {I : IVec S16x2048 32} (hI : InOrder I) (t : Fin 16) (i : Fin 2048) :
    rows I (ix3 t i 0) = BitVec.ofNat 32 (atom t i).val := by
  pointwise [rows]
  rw [hI]
  have h : IntOp.cmpi CmpIPredicate.slt (BitVec.ofNat 32 (atom t i).val) 0#32 ≠ 1#1 := fun e => by
    have := IntOp.cmpi_slt.mp e
    rw [atom_toInt] at this
    change _ < (0 : ℤ) at this
    omega
  unfold Scalar.select
  exact if_neg h

/-- In order, every row number is that of a row. -/
theorem inRange_apply {I : IVec S16x2048 32} (hI : InOrder I) (t : Fin 16) (i : Fin 2048) : inRange (rows I) (ix2 t i) = 1#1 := by
  unfold inRange
  refine Host.reduce_andi_one _ _ _ _ _ rfl fun j => ?_
  idx_vars j
  obtain rfl : j2 = 0 := Subsingleton.elim _ _
  pointwise
  rw [rows_apply hI, IntOp.cmpi_sge.mpr (by rw [atom_toInt]; show (0 : ℤ) ≤ _; omega),
    IntOp.cmpi_sle.mpr (by rw [atom_toInt]; show _ ≤ (32767 : ℤ); have := (atom j0 j1).isLt; omega)]
  rfl

/-- The gather reads, at crystal `t`, place `i` and feature `k`, feature `k` of the row the number there names. -/
theorem gather_apply (A : FVec Ideal S32768x512 .f32) (r : IVec S16x2048x1 32) (t : Fin 16) (i : Fin 2048) (k : Fin 512) (a : Fin 32768)
    (h : (r (ix3 t i 0)).toInt = a.val) : Host.gather dtake A r (ix3 t i k) = A (ix2 a k) := by
  have hs0 : GatherDims.start dtake (ix3 t i k) r (0 : Fin 2) = a.val := by
    unfold GatherDims.start
    rw [dif_pos (show (0 : Fin 2) ∈ dtake.startIndexMap from (by decide : (0 : Fin 2) ∈ ([0] : List (Fin 2))))]
    have e : GatherDims.siIdx dtake (ix3 t i k) ⟨dtake.startIndexMap.idxOf (0 : Fin 2), List.idxOf_lt_length_iff.2
        (show (0 : Fin 2) ∈ dtake.startIndexMap from (by decide : (0 : Fin 2) ∈ ([0] : List (Fin 2))))⟩ = ix3 t i 0 := by
      funext b
      match b with
      | ⟨0, _⟩ => rfl
      | ⟨1, _⟩ => rfl
      | ⟨2, _⟩ => rfl
    rw [e, h]
    show min ((a.val : ℤ)).toNat (32768 - 1) = a.val
    have := a.isLt
    omega
  have hs1 : GatherDims.start dtake (ix3 t i k) r (1 : Fin 2) = 0 := rfl
  unfold Host.gather
  refine congrArg A (funext fun x => Fin.ext ?_)
  match x with
  | ⟨0, _⟩ =>
    exact hs0
  | ⟨1, _⟩ =>
    show GatherDims.start dtake (ix3 t i k) r (1 : Fin 2) + 0 + k.val = k.val
    rw [hs1]
    omega

/-- In order, the taken array holds at crystal `t`, place `i` the features of its atom. -/
theorem taken_apply (A : FVec Ideal S32768x512 .f32) {I : IVec S16x2048 32} (hI : InOrder I) (t : Fin 16) (i : Fin 2048) (k : Fin 512) :
    taken A I (ix3 t i k) = A (ix2 (atom t i) k) := by
  pointwise [taken]
  rw [inRange_apply hI, gather_apply A _ t i k (atom t i) (by rw [rows_apply hI, atom_toInt])]
  rfl

end Cert.Proof.RI

end
-- ==== Proof.RefValue.lean ====
/- What the reference computes: its composed operations, named step by step, and their result in terms of the argument
   arrays. -/
module

public import proofs.«01_k».proof.Proof.Gen.ReferenceIdeal.Run
public import proofs.«01_k».proof.Proof.RefTake

@[expose] public section

set_option maxRecDepth 16384

noncomputable section

namespace Cert.Proof.RI

open Idealize.ShloMosaic Idealize.ShloMosaic.TcCoe
open Cert.ReferenceIdeal Cert.Proof.Math

/-- One level's scores, from the taken features and the level's parameters. -/
def scored (T : FVec Ideal S16x2048x512 .f32) (w : FVec Ideal S256x512 .f32) (b : FVec Ideal S256 .f32) (v : FVec Ideal S1x256 .f32)
    (β : FVec Ideal S1 .f32) : FVec Ideal S16x2048x1 .f32 :=
  addf
    (Host.dotGeneral dot_S16x2048x256_S1x256_S16x2048x1_2_1_01_0_n_n none
      (maximumf
        (addf (Host.dotGeneral dot_S16x2048x512_S256x512_S16x2048x256_2_1_01_0_n_n none T w)
          (broadcastInDim S16x2048x256 ![0, 1, 2] Facts₀.bcast_S1x1x256_S16x2048x256_0_1_2
            (broadcastInDim S1x1x256 ![2] Facts₀.bcast_S256_S1x1x256_2 b)))
        (broadcastInDim S16x2048x256 ![] Facts₀.bcast_S_S16x2048x256 (constant S_ .f32 0x00000000#32)))
      v)
    (broadcastInDim S16x2048x1 ![0, 1, 2] Facts₀.bcast_S1x1x1_S16x2048x1_0_1_2
      (broadcastInDim S1x1x1 ![2] Facts₀.bcast_S1_S1x1x1_2 β))

/-- The exponentials of one level's scores, each crystal's largest score subtracted. -/
def exps (s : FVec Ideal S16x2048x1 .f32) : FVec Ideal S16x2048x1 .f32 :=
  Host.exp (subf s (broadcastInDim S16x2048x1 ![0, 1, 2] Facts₀.bcast_S16x1x1_S16x2048x1_0_1_2
    (broadcastInDim S16x1x1 ![0, 2] Facts₀.bcast_S16x1_S16x1x1_0_2
      (maximumf (broadcastInDim S16x1 ![] Facts₀.bcast_S_S16x1 (constant S_ .f32 0xFF800000#32))
        (Host.reduce FloatOps.maximumf s (constant S_ .f32 0xFF800000#32) Facts₀.reducesTo_S16x2048x1_S16x1_d1 Facts₀.h_S_)))))

/-- One level's averages, from the taken features and the level's exponentials. -/
def pooled (T : FVec Ideal S16x2048x512 .f32) (e : FVec Ideal S16x2048x1 .f32) : FVec Ideal S16x512 .f32 :=
  Host.reduceAdd
    (mulf
      (broadcastInDim S16x2048x512 ![0, 1, 2] Facts₀.bcast_S16x2048x1_S16x2048x512_0_1_2
        (Host.divf e (broadcastInDim S16x2048x1 ![0, 1, 2] Facts₀.bcast_S16x1x1_S16x2048x1_0_1_2
          (broadcastInDim S16x1x1 ![0, 2] Facts₀.bcast_S16x1_S16x1x1_0_2
            (Host.reduceAdd e (constant S_ .f32 0x00000000#32) Facts₀.reducesTo_S16x2048x1_S16x1_d1 Facts₀.h_S_)))))
      T)
    (constant S_ .f32 0x00000000#32) Facts₀.reducesTo_S16x2048x512_S16x512_d1 Facts₀.h_S_

/-- Level 0's scores, from the parameters of all levels, -/
def scored0 (T : FVec Ideal S16x2048x512 .f32) (W : FVec Ideal S3x256x512 .f32) (b : FVec Ideal S3x256 .f32) (v : FVec Ideal S3x1x256 .f32)
    (β : FVec Ideal S3x1 .f32) : FVec Ideal S16x2048x1 .f32 :=
  scored T (shapeCast _ (extractStridedSlice S1x256x512 ![0, 0, 0] W Facts₀.slices_S3x256x512_S1x256x512_0_0_0) Facts₀.shapeCasts_S1x256x512_S256x512)
    (shapeCast _ (extractStridedSlice S1x256 ![0, 0] b Facts₀.slices_S3x256_S1x256_0_0) Facts₀.shapeCasts_S1x256_S256)
    (shapeCast _ (extractStridedSlice S1x1x256 ![0, 0, 0] v Facts₀.slices_S3x1x256_S1x1x256_0_0_0) Facts₀.shapeCasts_S1x1x256_S1x256)
    (shapeCast _ (extractStridedSlice S1x1 ![0, 0] β Facts₀.slices_S3x1_S1x1_0_0) Facts₀.shapeCasts_S1x1_S1)

/-- level 1's -/
def scored1 (T : FVec Ideal S16x2048x512 .f32) (W : FVec Ideal S3x256x512 .f32) (b : FVec Ideal S3x256 .f32) (v : FVec Ideal S3x1x256 .f32)
    (β : FVec Ideal S3x1 .f32) : FVec Ideal S16x2048x1 .f32 :=
  scored T (shapeCast _ (extractStridedSlice S1x256x512 ![1, 0, 0] W Facts₀.slices_S3x256x512_S1x256x512_1_0_0) Facts₀.shapeCasts_S1x256x512_S256x512)
    (shapeCast _ (extractStridedSlice S1x256 ![1, 0] b Facts₀.slices_S3x256_S1x256_1_0) Facts₀.shapeCasts_S1x256_S256)
    (shapeCast _ (extractStridedSlice S1x1x256 ![1, 0, 0] v Facts₀.slices_S3x1x256_S1x1x256_1_0_0) Facts₀.shapeCasts_S1x1x256_S1x256)
    (shapeCast _ (extractStridedSlice S1x1 ![1, 0] β Facts₀.slices_S3x1_S1x1_1_0) Facts₀.shapeCasts_S1x1_S1)

/-- and level 2's. -/
def scored2 (T : FVec Ideal S16x2048x512 .f32) (W : FVec Ideal S3x256x512 .f32) (b : FVec Ideal S3x256 .f32) (v : FVec Ideal S3x1x256 .f32)
    (β : FVec Ideal S3x1 .f32) : FVec Ideal S16x2048x1 .f32 :=
  scored T (shapeCast _ (extractStridedSlice S1x256x512 ![2, 0, 0] W Facts₀.slices_S3x256x512_S1x256x512_2_0_0) Facts₀.shapeCasts_S1x256x512_S256x512)
    (shapeCast _ (extractStridedSlice S1x256 ![2, 0] b Facts₀.slices_S3x256_S1x256_2_0) Facts₀.shapeCasts_S1x256_S256)
    (shapeCast _ (extractStridedSlice S1x1x256 ![2, 0, 0] v Facts₀.slices_S3x1x256_S1x1x256_2_0_0) Facts₀.shapeCasts_S1x1x256_S1x256)
    (shapeCast _ (extractStridedSlice S1x1 ![2, 0] β Facts₀.slices_S3x1_S1x1_2_0) Facts₀.shapeCasts_S1x1_S1)

/-- The last layer over the three levels' averages, one after another. -/
def layer (p0 p1 p2 : FVec Ideal S16x512 .f32) (Wf : FVec Ideal S512x1536 .f32) (bf : FVec Ideal S512 .f32) : FVec Ideal S16x512 .f32 :=
  addf
    (Host.dotGeneral dot_S16x1536_S1536x512_S16x512_1_0_0_1_n_n none
      (concatenate S16x1536 1 [⟨S16x512, p0⟩, ⟨S16x512, p1⟩, ⟨S16x512, p2⟩] Facts₀.concatenates_S16x512_S16x512_S16x512_S16x1536_d1)
      (transpose S1536x512 [1, 0] Wf Facts₀.transposes_S512x1536_S1536x512_1_0))
    (broadcastInDim S16x512 ![0, 1] Facts₀.bcast_S1x512_S16x512_0_1 (broadcastInDim S1x512 ![1] Facts₀.bcast_S512_S1x512_1 bf))

/-- The reference's result, from its arguments. -/
def refOut (A : FVec Ideal S32768x512 .f32) (I : IVec S16x2048 32) (W : FVec Ideal S3x256x512 .f32) (b : FVec Ideal S3x256 .f32)
    (v : FVec Ideal S3x1x256 .f32) (β : FVec Ideal S3x1 .f32) (Wf : FVec Ideal S512x1536 .f32) (bf : FVec Ideal S512 .f32) :
    FVec Ideal S16x512 .f32 :=
  layer (pooled (taken A I) (exps (scored0 (taken A I) W b v β))) (pooled (taken A I) (exps (scored1 (taken A I) W b v β)))
    (pooled (taken A I) (exps (scored2 (taken A I) W b v β))) Wf bf

variable (m : (ℓ : Loc nD τ sig) → Buf (Elt Ideal) ℓ)

/-- The reference's result array holds that. -/
theorem res_eq (c : Dev nD) : Cert.ReferenceIdeal.Value.res_main_v99 m c
    = refOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  unfold Cert.ReferenceIdeal.Value.res_main_v99 refOut layer pooled exps scored0 scored1 scored2 scored taken inRange rows
  rfl

/-! ## The steps, element by element -/

/-- A level's score without its second-layer bias, over the taken features and the level's own parameters. -/
theorem scored_apply (T : FVec Ideal S16x2048x512 .f32) (w : FVec Ideal S256x512 .f32) (b : FVec Ideal S256 .f32) (v : FVec Ideal S1x256 .f32)
    (β : FVec Ideal S1 .f32) (t : Fin 16) (i : Fin 2048) :
    scored T w b v β (ix3 t i 0)
      = ∑ j : Fin 256, max (∑ k : Fin 512, T (ix3 t i k) * w (ix2 j k) + b (ix1 j)) 0 * v (ix2 0 j) + β (ix1 0) := by
  pointwise [scored]

/-- A level's exponentials: each score less the crystal's largest. -/
theorem exps_apply (s : FVec Ideal S16x2048x1 .f32) (t : Fin 16) (i : Fin 2048) :
    exps s (ix3 t i 0) = Ideal.exp (s (ix3 t i 0) - max ⊥ (top fun i' => s (ix3 t i' 0))) := by
  unfold top
  pointwise [exps]
  rw [negInf]

/-- A level's averages. -/
theorem pooled_apply (T : FVec Ideal S16x2048x512 .f32) (e : FVec Ideal S16x2048x1 .f32) (t : Fin 16) (d : Fin 512) :
    pooled T e (ix2 t d) = ∑ i, Ideal.div (e (ix3 t i 0)) (∑ i', e (ix3 t i' 0)) * T (ix3 t i d) := by
  pointwise [pooled]

/-- The averages by the softmax of the scores. -/
theorem pooled_exps (T : FVec Ideal S16x2048x512 .f32) (s : FVec Ideal S16x2048x1 .f32) (t : Fin 16) (d : Fin 512) :
    pooled T (exps s) (ix2 t d) = pooledEach (fun i => s (ix3 t i 0)) (fun i => T (ix3 t i d)) := by
  rw [pooled_apply]
  unfold pooledEach
  simp only [exps_apply]

section Levels

variable (A : FVec Ideal S32768x512 .f32) {I : IVec S16x2048 32} (hI : InOrder I) (W : FVec Ideal S3x256x512 .f32)
  (b : FVec Ideal S3x256 .f32) (v : FVec Ideal S3x1x256 .f32) (β : FVec Ideal S3x1 .f32)

include hI

/-- Level 0's scores over the argument arrays, -/
theorem scored0_apply (t : Fin 16) (i : Fin 2048) : scored0 (taken A I) W b v β (ix3 t i 0) = score A W b v 0 t i + β (ix2 0 0) := by
  unfold scored0 score
  rw [scored_apply]
  simp only [taken_apply A hI]
  pointwise

/-- level 1's -/
theorem scored1_apply (t : Fin 16) (i : Fin 2048) : scored1 (taken A I) W b v β (ix3 t i 0) = score A W b v 1 t i + β (ix2 1 0) := by
  unfold scored1 score
  rw [scored_apply]
  simp only [taken_apply A hI]
  pointwise

/-- and level 2's. -/
theorem scored2_apply (t : Fin 16) (i : Fin 2048) : scored2 (taken A I) W b v β (ix3 t i 0) = score A W b v 2 t i + β (ix2 2 0) := by
  unfold scored2 score
  rw [scored_apply]
  simp only [taken_apply A hI]
  pointwise

/-- The averages of a level whose scores are given. -/
theorem pooled_level (l : Fin 3) (s : FVec Ideal S16x2048x1 .f32)
    (hs : ∀ t i, s (ix3 t i 0) = score A W b v l t i + β (ix2 l 0)) (t : Fin 16) (d : Fin 512) :
    pooled (taken A I) (exps s) (ix2 t d) = pooledEach (fun i => score A W b v l t i + β (ix2 l 0)) (fun i => A (ix2 (atom t i) d)) := by
  rw [pooled_exps]
  simp only [hs, taken_apply A hI]

end Levels

/-- The last layer, where the three levels' averages at crystal `t` are given by one function of level and feature:
    column `q` of the concatenation is feature `q % 512` of level `q / 512`. -/
theorem layer_apply (p0 p1 p2 : FVec Ideal S16x512 .f32) (Wf : FVec Ideal S512x1536 .f32) (bf : FVec Ideal S512 .f32)
    (t : Fin 16) (d : Fin 512) (P : Fin 3 → Fin 512 → EReal) (h0 : ∀ d, p0 (ix2 t d) = P 0 d) (h1 : ∀ d, p1 (ix2 t d) = P 1 d)
    (h2 : ∀ d, p2 (ix2 t d) = P 2 d) :
    layer p0 p1 p2 Wf bf (ix2 t d) = ∑ q : Fin 1536, P (lev q) (col q) * Wf (ix2 d q) + bf (ix1 d) := by
  pointwise [layer]
  refine congrArg (· + bf (ix1 d)) (Finset.sum_congr rfl fun q _ => congrArg (· * Wf (ix2 d q)) ?_)
  have hq := q.isLt
  by_cases c0 : q.val < 512
  · refine (dif_pos c0).trans ((h0 _).trans ?_)
    exact congrArg₂ P (Fin.ext (by show 0 = q.val / 512; omega)) (Fin.ext (by show q.val = q.val % 512; omega))
  refine (dif_neg c0).trans ?_
  by_cases c1 : q.val - 512 < 512
  · refine (dif_pos c1).trans ((h1 _).trans ?_)
    exact congrArg₂ P (Fin.ext (by show 1 = q.val / 512; omega)) (Fin.ext (by show q.val - 512 = q.val % 512; omega))
  · refine (dif_neg c1).trans ((h2 _).trans ?_)
    exact congrArg₂ P (Fin.ext (by show 2 = q.val / 512; omega)) (Fin.ext (by show q.val - 512 - 512 = q.val % 512; omega))

/-- The reference's result, element by element, where the indices name the atoms in order. -/
theorem refOut_apply (A : FVec Ideal S32768x512 .f32) {I : IVec S16x2048 32} (hI : InOrder I) (W : FVec Ideal S3x256x512 .f32)
    (b : FVec Ideal S3x256 .f32) (v : FVec Ideal S3x1x256 .f32) (β : FVec Ideal S3x1 .f32) (Wf : FVec Ideal S512x1536 .f32)
    (bf : FVec Ideal S512 .f32) (t : Fin 16) (d : Fin 512) :
    refOut A I W b v β Wf bf (ix2 t d) = outEach A W b v β Wf bf t d := by
  unfold refOut outEach
  exact layer_apply _ _ _ Wf bf t d (fun l d => pooledEach (fun i => score A W b v l t i + β (ix2 l 0)) (fun i => A (ix2 (atom t i) d)))
    (fun d => pooled_level A hI W b v β 0 _ (scored0_apply A hI W b v β) t d)
    (fun d => pooled_level A hI W b v β 1 _ (scored1_apply A hI W b v β) t d)
    (fun d => pooled_level A hI W b v β 2 _ (scored2_apply A hI W b v β) t d)

end Cert.Proof.RI

end
-- ==== Proof.Precondition.lean ====
/- What the precondition says of the argument arrays: the indices name the atoms in order, and the features and the
   attention layers' parameters are real numbers. -/
module

public import proofs.«01_k».proof.Defs
public import proofs.«01_k».proof.Proof.RefTake

@[expose] public section

noncomputable section

namespace Cert.Proof.Pre

open Idealize.ShloMosaic
open Cert.Pre_finite_in_order Cert.Proof.Math

/-- The side conditions of the precondition's operations. -/
instance facts : Cert.Pre_finite_in_order.Facts := by
  constructor <;> decide

/-- A number whose absolute value is below infinity is real. -/
theorem real_of_lt {a : EReal} (h : Ideal.cmp CmpFPredicate.olt (max a (-a)) (Ideal.ofBits FTy.f32 2139095040#32) = 1#1) : IsReal a := by
  have e : Ideal.ofBits FTy.f32 2139095040#32 = ⊤ := by simp [Ideal.ofBits, Ideal.ieee]
  rw [e] at h
  induction a with
  | bot => simp [Ideal.cmp] at h
  | top => simp [Ideal.cmp] at h
  | coe r => exact IsReal.coe r

variable (A : FVec Ideal S32768x512 .f32) (I : IVec S16x2048 32) (W : FVec Ideal S3x256x512 .f32) (b : FVec Ideal S3x256 .f32)
  (v : FVec Ideal S3x1x256 .f32) (β : FVec Ideal S3x1 .f32) (Wf : FVec Ideal S512x1536 .f32) (bf : FVec Ideal S512 .f32)

/-- The indices name the atoms in order. -/
theorem order (h : (fn (F := Ideal) A I W b v β Wf bf).1 = fun _ => 1#1) : RI.InOrder I := by
  intro t i
  have h' := congrFun h (ix2 t i)
  unfold fn fn_part1 at h'
  revert h'
  pointwise
  intro h'
  rw [IntOp.cmpi_eq.mp h']
  show BitVec.ofNat 32 t.val * BitVec.ofNat 32 2048 + BitVec.ofNat 32 i.val = BitVec.ofNat 32 (2048 * t.val + i.val)
  rw [BitVec.ofNat_add, BitVec.ofNat_mul, BitVec.mul_comm]

/-- The features are real, -/
theorem feat_real (h : (fn (F := Ideal) A I W b v β Wf bf).2.1 = fun _ => 1#1) (j : S32768x512.Idx) : IsReal (A j) := by
  have h' := congrFun h j
  unfold fn fn_part1 at h'
  exact real_of_lt h'

/-- the first layers' weights, -/
theorem weight1_real (h : (fn (F := Ideal) A I W b v β Wf bf).2.2.1 = fun _ => 1#1) (j : S3x256x512.Idx) : IsReal (W j) := by
  have h' := congrFun h j
  unfold fn fn_part1 at h'
  exact real_of_lt h'

/-- the first layers' biases, -/
theorem bias1_real (h : (fn (F := Ideal) A I W b v β Wf bf).2.2.2.1 = fun _ => 1#1) (j : S3x256.Idx) : IsReal (b j) := by
  have h' := congrFun h j
  unfold fn fn_part1 at h'
  exact real_of_lt h'

/-- the second layers' weights -/
theorem weight2_real (h : (fn (F := Ideal) A I W b v β Wf bf).2.2.2.2.1 = fun _ => 1#1) (j : S3x1x256.Idx) : IsReal (v j) := by
  have h' := congrFun h j
  unfold fn fn_part1 at h'
  exact real_of_lt h'

/-- and the second layers' biases. -/
theorem bias2_real (h : (fn (F := Ideal) A I W b v β Wf bf).2.2.2.2.2 = fun _ => 1#1) (j : S3x1.Idx) : IsReal (β j) := by
  have h' := congrFun h j
  unfold fn fn_part1 at h'
  exact real_of_lt h'

end Cert.Proof.Pre

end
-- ==== Proof.lean ====
/- The certificate's claim, put together: the frames of the kernel's program, of its reading at the extended reals and of
   the reference; and that the latter two end with equal results where the precondition holds. -/
module

public import proofs.«01_k».proof.Defs
public import proofs.«01_k».proof.Proof.SameProgram
public import proofs.«01_k».proof.Proof.KernelValue
public import proofs.«01_k».proof.Proof.RefValue
public import proofs.«01_k».proof.Proof.Precondition
public import Idealize.ShloMosaic.Lib.Quiescent

@[expose] public section

noncomputable section

namespace Cert.Proof

open Idealize.ShloMosaic Idealize.SL.Sem

/-- The kernel's program runs, leaves its arguments unchanged and ends with every counter at zero. -/
theorem frame_Kernel : Cert.quiescent_Kernel := P.frame

/-- So does its reading at the extended reals, from any memory, -/
theorem frame_KernelIdeal : Cert.quiescent_KernelIdeal := fun m g _ => θ_run_and (PI.unchanged m g) (PI.quiescent m g)

/-- hence from one where the precondition holds. -/
theorem frame_KernelIdeal_pre : Cert.quiescent_KernelIdeal_pre_finite_in_order := fun m g _ => frame_KernelIdeal m g trivial

/-- So does the reference, which has no semaphore. -/
theorem frame_ReferenceIdeal : Cert.quiescent_ReferenceIdeal := fun m g _ =>
  (θ_run _ _ _).mono (fun r h => ⟨fun c => (h c).2, sem_eq_zero_of_no_sems rfl r.2⟩) (Cert.ReferenceIdeal.Value.run m g)

theorem frame_ReferenceIdeal_pre : Cert.quiescent_ReferenceIdeal_pre_finite_in_order := fun m g _ => frame_ReferenceIdeal m g trivial

/-- Where the precondition holds, the kernel's result array at the end equals the reference's. -/
theorem results_eq (m : (ℓ : Loc Cert.KernelIdeal.nD Cert.KernelIdeal.τ Cert.KernelIdeal.sig) → Buf (Elt Ideal) ℓ)
    (h : Cert.Pre_KernelIdeal_finite_in_order m) (c : Dev Cert.KernelIdeal.nD) :
    PI.outBlock m c PI.tLast
      = RI.refOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) := by
  obtain ⟨hI, hA, hW, hb, hv, hβ⟩ := h c
  funext y
  idx_vars y
  refine (PI.outBlock_apply m c y0 y1).trans (Eq.trans ?_ (RI.refOut_apply _ (Pre.order _ _ _ _ _ _ _ _ hI) _ _ _ _ _ _ y0 y1).symm)
  exact Math.outOnce_eq_outEach (Pre.feat_real _ _ _ _ _ _ _ _ hA) (Pre.weight1_real _ _ _ _ _ _ _ _ hW)
    (Pre.bias1_real _ _ _ _ _ _ _ _ hb) (Pre.weight2_real _ _ _ _ _ _ _ _ hv) (Pre.bias2_real _ _ _ _ _ _ _ _ hβ) _ _ y0 y1

/-- The kernel read at the extended reals and the reference end with equal results. -/
theorem algebraic : Cert.algebraic_KernelIdeal_ReferenceIdeal_pre_finite_in_order := by
  intro m g m' g' h e
  refine ⟨fun c => PI.outBlock m c PI.tLast, ?_, ?_⟩
  · exact (θ_run _ _ _).mono (fun r hr c => ⟨hr.1 c, hr.2 c⟩) (θ_run_and (PI.result m g) (PI.unchanged m g))
  · refine (θ_run _ _ _).mono (fun r hr c => ⟨(hr c).1.trans ?_, (hr c).2⟩) (Cert.ReferenceIdeal.Value.run m' g')
    obtain ⟨e0, e1, e2, e3, e4, e5, e6, e7⟩ := e c
    refine (RI.res_eq m' c).trans ((?_ : _ = _).trans (results_eq m h c).symm)
    rw [e0, e1, e2, e3, e4, e5, e6, e7]

/-- The certificate's claim. -/
theorem claim : Cert.Claim :=
  ⟨Cert.Kernel.Gen.facts, Cert.KernelIdeal.Gen.facts, Cert.ReferenceIdeal.Gen.facts, Pre.facts,
    frame_Kernel, frame_KernelIdeal, frame_KernelIdeal_pre, frame_ReferenceIdeal, frame_ReferenceIdeal_pre, trivial, algebraic⟩

end Cert.Proof

end
